-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_offsets_of_the_grid [hPre_offsets_of_the_grid : Cert.Pre_offsets_of_the_grid.Facts] (m : (ℓ : Loc Cert.KernelIdeal.nD Cert.KernelIdeal.τ Cert.KernelIdeal.sig) → Buf (Elt Ideal) ℓ) : Prop :=
  ∀ c : Dev Cert.KernelIdeal.nD,
    (Cert.Pre_offsets_of_the_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_offsets_of_the_grid [hPre_offsets_of_the_grid : Cert.Pre_offsets_of_the_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_offsets_of_the_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_offsets_of_the_grid [hKernelIdeal : Cert.KernelIdeal.Facts] [hPre_offsets_of_the_grid : Cert.Pre_offsets_of_the_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_offsets_of_the_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_offsets_of_the_grid [hReferenceIdeal : Cert.ReferenceIdeal.Facts] [hPre_offsets_of_the_grid : Cert.Pre_offsets_of_the_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_offsets_of_the_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_offsets_of_the_grid [hKernelIdeal : Cert.KernelIdeal.Facts] [hReferenceIdeal : Cert.ReferenceIdeal.Facts] [hPre_offsets_of_the_grid : Cert.Pre_offsets_of_the_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_offsets_of_the_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_offsets_of_the_grid : Cert.Pre_offsets_of_the_grid.Facts),
    quiescent_Kernel (hKernel := hKernel)
    ∧ quiescent_KernelIdeal (hKernelIdeal := hKernelIdeal)
    ∧ quiescent_KernelIdeal_pre_offsets_of_the_grid (hKernelIdeal := hKernelIdeal) (hPre_offsets_of_the_grid := hPre_offsets_of_the_grid)
    ∧ quiescent_ReferenceIdeal (hReferenceIdeal := hReferenceIdeal)
    ∧ quiescent_ReferenceIdeal_pre_offsets_of_the_grid (hReferenceIdeal := hReferenceIdeal) (hPre_offsets_of_the_grid := hPre_offsets_of_the_grid)
    ∧ preserves_Kernel_KernelIdeal
    ∧ algebraic_KernelIdeal_ReferenceIdeal_pre_offsets_of_the_grid (hKernelIdeal := hKernelIdeal) (hReferenceIdeal := hReferenceIdeal) (hPre_offsets_of_the_grid := hPre_offsets_of_the_grid)
-- ==== Pre_offsets_of_the_grid.lean ====
abbrev S6513496x4x2 : Shape := ⟨3, ![6513496, 4, 2]⟩
abbrev S17 : Shape := ⟨1, ![17]⟩
abbrev S16 : Shape := ⟨1, ![16]⟩
abbrev S2x2 : Shape := ⟨2, ![2, 2]⟩
abbrev S2 : Shape := ⟨1, ![2]⟩

class Facts : Prop where
  slices_S17_S16_1 : S17.Slices ![1] S16

variable [Facts]

noncomputable abbrev lit0 : Fin 16 → BitVec 32 := fun
  | 0 => 4096#32 | 1 => 17920#32 | 2 => 64576#32 | 3 => 222040#32 | 4 => 746328#32 | 5 => 1270616#32 | 6 => 1794904#32 | 7 => 2319192#32
  | 8 => 2843480#32 | 9 => 3367768#32 | 10 => 3892056#32 | 11 => 4416344#32 | 12 => 4940632#32 | 13 => 5464920#32 | 14 => 5989208#32 | 15 => 6513496#32
  | _ => 0#32

def fn {F : FTy → Type} [FloatOps F] (main_arg0 : FVec F S6513496x4x2 .f32) (main_arg1 : IVec S17 32) (main_arg2 : IVec S16 32) (main_arg3 : FVec F S2x2 .f32) (main_arg4 : FVec F S2 .f32) : IVec S16 1 :=
  let main_c : IVec S16 32 := fun i => lit0 (S16.rowMajor i)
  let main_v0 : IVec S16 32 := (extractStridedSlice S16 ![1] · slices_S17_S16_1) main_arg1
  let main_v1 : IVec S16 1 := cmpi .eq main_v0 main_c
  main_v1
-- ==== Kernel.lean ====
abbrev S6513496x4x2 : Shape := ⟨3, ![6513496, 4, 2]⟩
abbrev S17 : Shape := ⟨1, ![17]⟩
abbrev S16 : Shape := ⟨1, ![16]⟩
abbrev S2x2 : Shape := ⟨2, ![2, 2]⟩
abbrev S2 : Shape := ⟨1, ![2]⟩
abbrev S16x1 : Shape := ⟨2, ![16, 1]⟩
abbrev S4x2x6513496 : Shape := ⟨3, ![4, 2, 6513496]⟩
abbrev S_ : Shape := ⟨0, ![]⟩
abbrev S4x2x16 : Shape := ⟨3, ![4, 2, 16]⟩
abbrev S1x2x131072 : Shape := ⟨3, ![1, 2, 131072]⟩
abbrev S1x2x16 : Shape := ⟨3, ![1, 2, 16]⟩
abbrev S2x131072 : Shape := ⟨2, ![2, 131072]⟩
abbrev S2x1 : Shape := ⟨2, ![2, 1]⟩
abbrev S1x16 : Shape := ⟨2, ![1, 16]⟩
abbrev S2x16 : Shape := ⟨2, ![2, 16]⟩
abbrev S1x131072 : Shape := ⟨2, ![1, 131072]⟩
abbrev S16x131072 : Shape := ⟨2, ![16, 131072]⟩

abbrev nBuf : Space → Nat
  | .hbm => 16
  | .vmem => 15
  | .smem => 0
  | _ => 0

abbrev bufTy : (tb : Table) → Fin (tcTables nBuf tb) → BufTy
  | .hbm, ⟨0, _⟩ => ⟨S6513496x4x2, .f32⟩
  | .hbm, ⟨1, _⟩ => ⟨S17, .i32⟩
  | .hbm, ⟨2, _⟩ => ⟨S16, .i32⟩
  | .hbm, ⟨3, _⟩ => ⟨S2x2, .f32⟩
  | .hbm, ⟨4, _⟩ => ⟨S2, .f32⟩
  | .hbm, ⟨5, _⟩ => ⟨S16x1, .i32⟩
  | .hbm, ⟨6, _⟩ => ⟨S16x1, .i32⟩
  | .hbm, ⟨7, _⟩ => ⟨S16x1, .f32⟩
  | .hbm, ⟨8, _⟩ => ⟨S4x2x6513496, .f32⟩
  | .hbm, ⟨9, _⟩ => ⟨S_, .f32⟩
  | .hbm, ⟨10, _⟩ => ⟨S16x1, .f32⟩
  | .hbm, ⟨11, _⟩ => ⟨S16x1, .f32⟩
  | .hbm, ⟨12, _⟩ => ⟨S4x2x16, .f32⟩
  | .hbm, ⟨13, _⟩ => ⟨S2x1, .f32⟩
  | .hbm, ⟨14, _⟩ => ⟨S4x2x6513496, .f32⟩
  | .hbm, ⟨15, _⟩ => ⟨S6513496x4x2, .f32⟩
  | .local _ .vmem, ⟨0, _⟩ => ⟨S16x1, .i32⟩
  | .local _ .vmem, ⟨1, _⟩ => ⟨S16x1, .i32⟩
  | .local _ .vmem, ⟨2, _⟩ => ⟨S1x2x131072, .f32⟩
  | .local _ .vmem, ⟨3, _⟩ => ⟨S1x2x131072, .f32⟩
  | .local _ .vmem, ⟨4, _⟩ => ⟨S1x2x16, .f32⟩
  | .local _ .vmem, ⟨5, _⟩ => ⟨S1x2x16, .f32⟩
  | .local _ .vmem, ⟨6, _⟩ => ⟨S16x1, .i32⟩
  | .local _ .vmem, ⟨7, _⟩ => ⟨S16x1, .i32⟩
  | .local _ .vmem, ⟨8, _⟩ => ⟨S16x1, .f32⟩
  | .local _ .vmem, ⟨9, _⟩ => ⟨S1x2x16, .f32⟩
  | .local _ .vmem, ⟨10, _⟩ => ⟨S1x2x16, .f32⟩
  | .local _ .vmem, ⟨11, _⟩ => ⟨S2x2, .f32⟩
  | .local _ .vmem, ⟨12, _⟩ => ⟨S2x1, .f32⟩
  | .local _ .vmem, ⟨13, _⟩ => ⟨S1x2x131072, .f32⟩
  | .local _ .vmem, ⟨14, _⟩ => ⟨S1x2x131072, .f32⟩
  | _, _ => ⟨S6513496x4x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_cst : Ref sig .tc := ⟨.hbm, 7, rfl⟩
abbrev main_v0 : Ref sig .tc := ⟨.hbm, 8, rfl⟩
abbrev main_cst_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨2, ![4, 50], ![false, false]⟩

def k0_cond1 (i : grid0.Coords) : BitVec 1 :=
  let arg1 : BitVec 32 := BitVec.ofNat 32 (i 1).val
  let c0_i32_33 : BitVec 32 := 0#32
  let v114 : BitVec 1 := Scalar.cmpi .eq arg1 c0_i32_33
  let v115 : BitVec 32 := Scalar.extui v114
  let c0_i32_34 : BitVec 32 := 0#32
  let v116 : BitVec 1 := Scalar.cmpi .ne v115 c0_i32_34
  v116

def k0_cond2 (i : grid0.Coords) : BitVec 1 :=
  let v_false : BitVec 1 := 0#1
  let arg1 : BitVec 32 := BitVec.ofNat 32 (i 1).val
  let c131072_i32 : BitVec 32 := 131072#32
  let v0 : BitVec 32 := Scalar.muli arg1 c131072_i32
  let c4096_i32_1 : BitVec 32 := 4096#32
  let v5 : BitVec 1 := Scalar.cmpi .slt v0 c4096_i32_1
  let c131072_i32_0 : BitVec 32 := 131072#32
  let v1 : BitVec 32 := Scalar.addi v0 c131072_i32_0
  let c4096_i32_2 : BitVec 32 := 4096#32
  let v6 : BitVec 1 := Scalar.cmpi .sgt v1 c4096_i32_2
  let v7 : BitVec 1 := Scalar.andi v5 v6
  let v8 : BitVec 1 := Scalar.ori v_false v7
  let c17920_i32_3 : BitVec 32 := 17920#32
  let v12 : BitVec 1 := Scalar.cmpi .slt v0 c17920_i32_3
  let c17920_i32_4 : BitVec 32 := 17920#32
  let v13 : BitVec 1 := Scalar.cmpi .sgt v1 c17920_i32_4
  let v14 : BitVec 1 := Scalar.andi v12 v13
  let v15 : BitVec 1 := Scalar.ori v8 v14
  let c64576_i32_5 : BitVec 32 := 64576#32
  let v19 : BitVec 1 := Scalar.cmpi .slt v0 c64576_i32_5
  let c64576_i32_6 : BitVec 32 := 64576#32
  let v20 : BitVec 1 := Scalar.cmpi .sgt v1 c64576_i32_6
  let v21 : BitVec 1 := Scalar.andi v19 v20
  let v22 : BitVec 1 := Scalar.ori v15 v21
  let c222040_i32_7 : BitVec 32 := 222040#32
  let v26 : BitVec 1 := Scalar.cmpi .slt v0 c222040_i32_7
  let c222040_i32_8 : BitVec 32 := 222040#32
  let v27 : BitVec 1 := Scalar.cmpi .sgt v1 c222040_i32_8
  let v28 : BitVec 1 := Scalar.andi v26 v27
  let v29 : BitVec 1 := Scalar.ori v22 v28
  let c746328_i32_9 : BitVec 32 := 746328#32
  let v33 : BitVec 1 := Scalar.cmpi .slt v0 c746328_i32_9
  let c746328_i32_10 : BitVec 32 := 746328#32
  let v34 : BitVec 1 := Scalar.cmpi .sgt v1 c746328_i32_10
  let v35 : BitVec 1 := Scalar.andi v33 v34
  let v36 : BitVec 1 := Scalar.ori v29 v35
  let c1270616_i32_11 : BitVec 32 := 1270616#32
  let v40 : BitVec 1 := Scalar.cmpi .slt v0 c1270616_i32_11
  let c1270616_i32_12 : BitVec 32 := 1270616#32
  let v41 : BitVec 1 := Scalar.cmpi .sgt v1 c1270616_i32_12
  let v42 : BitVec 1 := Scalar.andi v40 v41
  let v43 : BitVec 1 := Scalar.ori v36 v42
  let c1794904_i32_13 : BitVec 32 := 1794904#32
  let v47 : BitVec 1 := Scalar.cmpi .slt v0 c1794904_i32_13
  let c1794904_i32_14 : BitVec 32 := 1794904#32
  let v48 : BitVec 1 := Scalar.cmpi .sgt v1 c1794904_i32_14
  let v49 : BitVec 1 := Scalar.andi v47 v48
  let v50 : BitVec 1 := Scalar.ori v43 v49
  let c2319192_i32_15 : BitVec 32 := 2319192#32
  let v54 : BitVec 1 := Scalar.cmpi .slt v0 c2319192_i32_15
  let c2319192_i32_16 : BitVec 32 := 2319192#32
  let v55 : BitVec 1 := Scalar.cmpi .sgt v1 c2319192_i32_16
  let v56 : BitVec 1 := Scalar.andi v54 v55
  let v57 : BitVec 1 := Scalar.ori v50 v56
  let c2843480_i32_17 : BitVec 32 := 2843480#32
  let v61 : BitVec 1 := Scalar.cmpi .slt v0 c2843480_i32_17
  let c2843480_i32_18 : BitVec 32 := 2843480#32
  let v62 : BitVec 1 := Scalar.cmpi .sgt v1 c2843480_i32_18
  let v63 : BitVec 1 := Scalar.andi v61 v62
  let v64 : BitVec 1 := Scalar.ori v57 v63
  let c3367768_i32_19 : BitVec 32 := 3367768#32
  let v68 : BitVec 1 := Scalar.cmpi .slt v0 c3367768_i32_19
  let c3367768_i32_20 : BitVec 32 := 3367768#32
  let v69 : BitVec 1 := Scalar.cmpi .sgt v1 c3367768_i32_20
  let v70 : BitVec 1 := Scalar.andi v68 v69
  let v71 : BitVec 1 := Scalar.ori v64 v70
  let c3892056_i32_21 : BitVec 32 := 3892056#32
  let v75 : BitVec 1 := Scalar.cmpi .slt v0 c3892056_i32_21
  let c3892056_i32_22 : BitVec 32 := 3892056#32
  let v76 : BitVec 1 := Scalar.cmpi .sgt v1 c3892056_i32_22
  let v77 : BitVec 1 := Scalar.andi v75 v76
  let v78 : BitVec 1 := Scalar.ori v71 v77
  let c4416344_i32_23 : BitVec 32 := 4416344#32
  let v82 : BitVec 1 := Scalar.cmpi .slt v0 c4416344_i32_23
  let c4416344_i32_24 : BitVec 32 := 4416344#32
  let v83 : BitVec 1 := Scalar.cmpi .sgt v1 c4416344_i32_24
  let v84 : BitVec 1 := Scalar.andi v82 v83
  let v85 : BitVec 1 := Scalar.ori v78 v84
  let c4940632_i32_25 : BitVec 32 := 4940632#32
  let v89 : BitVec 1 := Scalar.cmpi .slt v0 c4940632_i32_25
  let c4940632_i32_26 : BitVec 32 := 4940632#32
  let v90 : BitVec 1 := Scalar.cmpi .sgt v1 c4940632_i32_26
  let v91 : BitVec 1 := Scalar.andi v89 v90
  let v92 : BitVec 1 := Scalar.ori v85 v91
  let c5464920_i32_27 : BitVec 32 := 5464920#32
  let v96 : BitVec 1 := Scalar.cmpi .slt v0 c5464920_i32_27
  let c5464920_i32_28 : BitVec 32 := 5464920#32
  let v97 : BitVec 1 := Scalar.cmpi .sgt v1 c5464920_i32_28
  let v98 : BitVec 1 := Scalar.andi v96 v97
  let v99 : BitVec 1 := Scalar.ori v92 v98
  let c5989208_i32_29 : BitVec 32 := 5989208#32
  let v103 : BitVec 1 := Scalar.cmpi .slt v0 c5989208_i32_29
  let c5989208_i32_30 : BitVec 32 := 5989208#32
  let v104 : BitVec 1 := Scalar.cmpi .sgt v1 c5989208_i32_30
  let v105 : BitVec 1 := Scalar.andi v103 v104
  let v106 : BitVec 1 := Scalar.ori v99 v105
  let c6513496_i32_31 : BitVec 32 := 6513496#32
  let v110 : BitVec 1 := Scalar.cmpi .slt v0 c6513496_i32_31
  let c6513496_i32_32 : BitVec 32 := 6513496#32
  let v111 : BitVec 1 := Scalar.cmpi .sgt v1 c6513496_i32_32
  let v112 : BitVec 1 := Scalar.andi v110 v111
  let v113 : BitVec 1 := Scalar.ori v106 v112
  let v_true : BitVec 1 := 1#1
  let v117 : BitVec 1 := Scalar.xori v113 v_true
  let v118 : BitVec 32 := Scalar.extui v117
  let c0_i32_35 : BitVec 32 := 0#32
  let v119 : BitVec 1 := Scalar.cmpi .ne v118 c0_i32_35
  v119

def k0_cond3 (i : grid0.Coords) : BitVec 1 :=
  let v_false : BitVec 1 := 0#1
  let arg1 : BitVec 32 := BitVec.ofNat 32 (i 1).val
  let c131072_i32 : BitVec 32 := 131072#32
  let v0 : BitVec 32 := Scalar.muli arg1 c131072_i32
  let c4096_i32_1 : BitVec 32 := 4096#32
  let v5 : BitVec 1 := Scalar.cmpi .slt v0 c4096_i32_1
  let c131072_i32_0 : BitVec 32 := 131072#32
  let v1 : BitVec 32 := Scalar.addi v0 c131072_i32_0
  let c4096_i32_2 : BitVec 32 := 4096#32
  let v6 : BitVec 1 := Scalar.cmpi .sgt v1 c4096_i32_2
  let v7 : BitVec 1 := Scalar.andi v5 v6
  let v8 : BitVec 1 := Scalar.ori v_false v7
  let c17920_i32_3 : BitVec 32 := 17920#32
  let v12 : BitVec 1 := Scalar.cmpi .slt v0 c17920_i32_3
  let c17920_i32_4 : BitVec 32 := 17920#32
  let v13 : BitVec 1 := Scalar.cmpi .sgt v1 c17920_i32_4
  let v14 : BitVec 1 := Scalar.andi v12 v13
  let v15 : BitVec 1 := Scalar.ori v8 v14
  let c64576_i32_5 : BitVec 32 := 64576#32
  let v19 : BitVec 1 := Scalar.cmpi .slt v0 c64576_i32_5
  let c64576_i32_6 : BitVec 32 := 64576#32
  let v20 : BitVec 1 := Scalar.cmpi .sgt v1 c64576_i32_6
  let v21 : BitVec 1 := Scalar.andi v19 v20
  let v22 : BitVec 1 := Scalar.ori v15 v21
  let c222040_i32_7 : BitVec 32 := 222040#32
  let v26 : BitVec 1 := Scalar.cmpi .slt v0 c222040_i32_7
  let c222040_i32_8 : BitVec 32 := 222040#32
  let v27 : BitVec 1 := Scalar.cmpi .sgt v1 c222040_i32_8
  let v28 : BitVec 1 := Scalar.andi v26 v27
  let v29 : BitVec 1 := Scalar.ori v22 v28
  let c746328_i32_9 : BitVec 32 := 746328#32
  let v33 : BitVec 1 := Scalar.cmpi .slt v0 c746328_i32_9
  let c746328_i32_10 : BitVec 32 := 746328#32
  let v34 : BitVec 1 := Scalar.cmpi .sgt v1 c746328_i32_10
  let v35 : BitVec 1 := Scalar.andi v33 v34
  let v36 : BitVec 1 := Scalar.ori v29 v35
  let c1270616_i32_11 : BitVec 32 := 1270616#32
  let v40 : BitVec 1 := Scalar.cmpi .slt v0 c1270616_i32_11
  let c1270616_i32_12 : BitVec 32 := 1270616#32
  let v41 : BitVec 1 := Scalar.cmpi .sgt v1 c1270616_i32_12
  let v42 : BitVec 1 := Scalar.andi v40 v41
  let v43 : BitVec 1 := Scalar.ori v36 v42
  let c1794904_i32_13 : BitVec 32 := 1794904#32
  let v47 : BitVec 1 := Scalar.cmpi .slt v0 c1794904_i32_13
  let c1794904_i32_14 : BitVec 32 := 1794904#32
  let v48 : BitVec 1 := Scalar.cmpi .sgt v1 c1794904_i32_14
  let v49 : BitVec 1 := Scalar.andi v47 v48
  let v50 : BitVec 1 := Scalar.ori v43 v49
  let c2319192_i32_15 : BitVec 32 := 2319192#32
  let v54 : BitVec 1 := Scalar.cmpi .slt v0 c2319192_i32_15
  let c2319192_i32_16 : BitVec 32 := 2319192#32
  let v55 : BitVec 1 := Scalar.cmpi .sgt v1 c2319192_i32_16
  let v56 : BitVec 1 := Scalar.andi v54 v55
  let v57 : BitVec 1 := Scalar.ori v50 v56
  let c2843480_i32_17 : BitVec 32 := 2843480#32
  let v61 : BitVec 1 := Scalar.cmpi .slt v0 c2843480_i32_17
  let c2843480_i32_18 : BitVec 32 := 2843480#32
  let v62 : BitVec 1 := Scalar.cmpi .sgt v1 c2843480_i32_18
  let v63 : BitVec 1 := Scalar.andi v61 v62
  let v64 : BitVec 1 := Scalar.ori v57 v63
  let c3367768_i32_19 : BitVec 32 := 3367768#32
  let v68 : BitVec 1 := Scalar.cmpi .slt v0 c3367768_i32_19
  let c3367768_i32_20 : BitVec 32 := 3367768#32
  let v69 : BitVec 1 := Scalar.cmpi .sgt v1 c3367768_i32_20
  let v70 : BitVec 1 := Scalar.andi v68 v69
  let v71 : BitVec 1 := Scalar.ori v64 v70
  let c3892056_i32_21 : BitVec 32 := 3892056#32
  let v75 : BitVec 1 := Scalar.cmpi .slt v0 c3892056_i32_21
  let c3892056_i32_22 : BitVec 32 := 3892056#32
  let v76 : BitVec 1 := Scalar.cmpi .sgt v1 c3892056_i32_22
  let v77 : BitVec 1 := Scalar.andi v75 v76
  let v78 : BitVec 1 := Scalar.ori v71 v77
  let c4416344_i32_23 : BitVec 32 := 4416344#32
  let v82 : BitVec 1 := Scalar.cmpi .slt v0 c4416344_i32_23
  let c4416344_i32_24 : BitVec 32 := 4416344#32
  let v83 : BitVec 1 := Scalar.cmpi .sgt v1 c4416344_i32_24
  let v84 : BitVec 1 := Scalar.andi v82 v83
  let v85 : BitVec 1 := Scalar.ori v78 v84
  let c4940632_i32_25 : BitVec 32 := 4940632#32
  let v89 : BitVec 1 := Scalar.cmpi .slt v0 c4940632_i32_25
  let c4940632_i32_26 : BitVec 32 := 4940632#32
  let v90 : BitVec 1 := Scalar.cmpi .sgt v1 c4940632_i32_26
  let v91 : BitVec 1 := Scalar.andi v89 v90
  let v92 : BitVec 1 := Scalar.ori v85 v91
  let c5464920_i32_27 : BitVec 32 := 5464920#32
  let v96 : BitVec 1 := Scalar.cmpi .slt v0 c5464920_i32_27
  let c5464920_i32_28 : BitVec 32 := 5464920#32
  let v97 : BitVec 1 := Scalar.cmpi .sgt v1 c5464920_i32_28
  let v98 : BitVec 1 := Scalar.andi v96 v97
  let v99 : BitVec 1 := Scalar.ori v92 v98
  let c5989208_i32_29 : BitVec 32 := 5989208#32
  let v103 : BitVec 1 := Scalar.cmpi .slt v0 c5989208_i32_29
  let c5989208_i32_30 : BitVec 32 := 5989208#32
  let v104 : BitVec 1 := Scalar.cmpi .sgt v1 c5989208_i32_30
  let v105 : BitVec 1 := Scalar.andi v103 v104
  let v106 : BitVec 1 := Scalar.ori v99 v105
  let c6513496_i32_31 : BitVec 32 := 6513496#32
  let v110 : BitVec 1 := Scalar.cmpi .slt v0 c6513496_i32_31
  let c6513496_i32_32 : BitVec 32 := 6513496#32
  let v111 : BitVec 1 := Scalar.cmpi .sgt v1 c6513496_i32_32
  let v112 : BitVec 1 := Scalar.andi v110 v111
  let v113 : BitVec 1 := Scalar.ori v106 v112
  let v120 : BitVec 32 := Scalar.extui v113
  let c0_i32_36 : BitVec 32 := 0#32
  let v121 : BitVec 1 := Scalar.cmpi .ne v120 c0_i32_36
  v121

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S16x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x131072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 50], ![false, false]⟩

def k1_cond1 (i : grid1.Coords) : BitVec 1 :=
  let v_false : BitVec 1 := 0#1
  let arg1 : BitVec 32 := BitVec.ofNat 32 (i 1).val
  let c131072_i32 : BitVec 32 := 131072#32
  let v0 : BitVec 32 := Scalar.muli arg1 c131072_i32
  let c4096_i32_1 : BitVec 32 := 4096#32
  let v5 : BitVec 1 := Scalar.cmpi .slt v0 c4096_i32_1
  let c131072_i32_0 : BitVec 32 := 131072#32
  let v1 : BitVec 32 := Scalar.addi v0 c131072_i32_0
  let c4096_i32_2 : BitVec 32 := 4096#32
  let v6 : BitVec 1 := Scalar.cmpi .sgt v1 c4096_i32_2
  let v7 : BitVec 1 := Scalar.andi v5 v6
  let v8 : BitVec 1 := Scalar.ori v_false v7
  let c17920_i32_3 : BitVec 32 := 17920#32
  let v12 : BitVec 1 := Scalar.cmpi .slt v0 c17920_i32_3
  let c17920_i32_4 : BitVec 32 := 17920#32
  let v13 : BitVec 1 := Scalar.cmpi .sgt v1 c17920_i32_4
  let v14 : BitVec 1 := Scalar.andi v12 v13
  let v15 : BitVec 1 := Scalar.ori v8 v14
  let c64576_i32_5 : BitVec 32 := 64576#32
  let v19 : BitVec 1 := Scalar.cmpi .slt v0 c64576_i32_5
  let c64576_i32_6 : BitVec 32 := 64576#32
  let v20 : BitVec 1 := Scalar.cmpi .sgt v1 c64576_i32_6
  let v21 : BitVec 1 := Scalar.andi v19 v20
  let v22 : BitVec 1 := Scalar.ori v15 v21
  let c222040_i32_7 : BitVec 32 := 222040#32
  let v26 : BitVec 1 := Scalar.cmpi .slt v0 c222040_i32_7
  let c222040_i32_8 : BitVec 32 := 222040#32
  let v27 : BitVec 1 := Scalar.cmpi .sgt v1 c222040_i32_8
  let v28 : BitVec 1 := Scalar.andi v26 v27
  let v29 : BitVec 1 := Scalar.ori v22 v28
  let c746328_i32_9 : BitVec 32 := 746328#32
  let v33 : BitVec 1 := Scalar.cmpi .slt v0 c746328_i32_9
  let c746328_i32_10 : BitVec 32 := 746328#32
  let v34 : BitVec 1 := Scalar.cmpi .sgt v1 c746328_i32_10
  let v35 : BitVec 1 := Scalar.andi v33 v34
  let v36 : BitVec 1 := Scalar.ori v29 v35
  let c1270616_i32_11 : BitVec 32 := 1270616#32
  let v40 : BitVec 1 := Scalar.cmpi .slt v0 c1270616_i32_11
  let c1270616_i32_12 : BitVec 32 := 1270616#32
  let v41 : BitVec 1 := Scalar.cmpi .sgt v1 c1270616_i32_12
  let v42 : BitVec 1 := Scalar.andi v40 v41
  let v43 : BitVec 1 := Scalar.ori v36 v42
  let c1794904_i32_13 : BitVec 32 := 1794904#32
  let v47 : BitVec 1 := Scalar.cmpi .slt v0 c1794904_i32_13
  let c1794904_i32_14 : BitVec 32 := 1794904#32
  let v48 : BitVec 1 := Scalar.cmpi .sgt v1 c1794904_i32_14
  let v49 : BitVec 1 := Scalar.andi v47 v48
  let v50 : BitVec 1 := Scalar.ori v43 v49
  let c2319192_i32_15 : BitVec 32 := 2319192#32
  let v54 : BitVec 1 := Scalar.cmpi .slt v0 c2319192_i32_15
  let c2319192_i32_16 : BitVec 32 := 2319192#32
  let v55 : BitVec 1 := Scalar.cmpi .sgt v1 c2319192_i32_16
  let v56 : BitVec 1 := Scalar.andi v54 v55
  let v57 : BitVec 1 := Scalar.ori v50 v56
  let c2843480_i32_17 : BitVec 32 := 2843480#32
  let v61 : BitVec 1 := Scalar.cmpi .slt v0 c2843480_i32_17
  let c2843480_i32_18 : BitVec 32 := 2843480#32
  let v62 : BitVec 1 := Scalar.cmpi .sgt v1 c2843480_i32_18
  let v63 : BitVec 1 := Scalar.andi v61 v62
  let v64 : BitVec 1 := Scalar.ori v57 v63
  let c3367768_i32_19 : BitVec 32 := 3367768#32
  let v68 : BitVec 1 := Scalar.cmpi .slt v0 c3367768_i32_19
  let c3367768_i32_20 : BitVec 32 := 3367768#32
  let v69 : BitVec 1 := Scalar.cmpi .sgt v1 c3367768_i32_20
  let v70 : BitVec 1 := Scalar.andi v68 v69
  let v71 : BitVec 1 := Scalar.ori v64 v70
  let c3892056_i32_21 : BitVec 32 := 3892056#32
  let v75 : BitVec 1 := Scalar.cmpi .slt v0 c3892056_i32_21
  let c3892056_i32_22 : BitVec 32 := 3892056#32
  let v76 : BitVec 1 := Scalar.cmpi .sgt v1 c3892056_i32_22
  let v77 : BitVec 1 := Scalar.andi v75 v76
  let v78 : BitVec 1 := Scalar.ori v71 v77
  let c4416344_i32_23 : BitVec 32 := 4416344#32
  let v82 : BitVec 1 := Scalar.cmpi .slt v0 c4416344_i32_23
  let c4416344_i32_24 : BitVec 32 := 4416344#32
  let v83 : BitVec 1 := Scalar.cmpi .sgt v1 c4416344_i32_24
  let v84 : BitVec 1 := Scalar.andi v82 v83
  let v85 : BitVec 1 := Scalar.ori v78 v84
  let c4940632_i32_25 : BitVec 32 := 4940632#32
  let v89 : BitVec 1 := Scalar.cmpi .slt v0 c4940632_i32_25
  let c4940632_i32_26 : BitVec 32 := 4940632#32
  let v90 : BitVec 1 := Scalar.cmpi .sgt v1 c4940632_i32_26
  let v91 : BitVec 1 := Scalar.andi v89 v90
  let v92 : BitVec 1 := Scalar.ori v85 v91
  let c5464920_i32_27 : BitVec 32 := 5464920#32
  let v96 : BitVec 1 := Scalar.cmpi .slt v0 c5464920_i32_27
  let c5464920_i32_28 : BitVec 32 := 5464920#32
  let v97 : BitVec 1 := Scalar.cmpi .sgt v1 c5464920_i32_28
  let v98 : BitVec 1 := Scalar.andi v96 v97
  let v99 : BitVec 1 := Scalar.ori v92 v98
  let c5989208_i32_29 : BitVec 32 := 5989208#32
  let v103 : BitVec 1 := Scalar.cmpi .slt v0 c5989208_i32_29
  let c5989208_i32_30 : BitVec 32 := 5989208#32
  let v104 : BitVec 1 := Scalar.cmpi .sgt v1 c5989208_i32_30
  let v105 : BitVec 1 := Scalar.andi v103 v104
  let v106 : BitVec 1 := Scalar.ori v99 v105
  let c6513496_i32_31 : BitVec 32 := 6513496#32
  let v110 : BitVec 1 := Scalar.cmpi .slt v0 c6513496_i32_31
  let c6513496_i32_32 : BitVec 32 := 6513496#32
  let v111 : BitVec 1 := Scalar.cmpi .sgt v1 c6513496_i32_32
  let v112 : BitVec 1 := Scalar.andi v110 v111
  let v113 : BitVec 1 := Scalar.ori v106 v112
  let v_true : BitVec 1 := 1#1
  let v118 : BitVec 1 := Scalar.xori v113 v_true
  let v119 : BitVec 32 := Scalar.extui v118
  let c0_i32_37 : BitVec 32 := 0#32
  let v120 : BitVec 1 := Scalar.cmpi .ne v119 c0_i32_37
  v120

def k1_cond2 (i : grid1.Coords) : BitVec 1 :=
  let v_false : BitVec 1 := 0#1
  let arg1 : BitVec 32 := BitVec.ofNat 32 (i 1).val
  let c131072_i32 : BitVec 32 := 131072#32
  let v0 : BitVec 32 := Scalar.muli arg1 c131072_i32
  let c4096_i32_1 : BitVec 32 := 4096#32
  let v5 : BitVec 1 := Scalar.cmpi .slt v0 c4096_i32_1
  let c131072_i32_0 : BitVec 32 := 131072#32
  let v1 : BitVec 32 := Scalar.addi v0 c131072_i32_0
  let c4096_i32_2 : BitVec 32 := 4096#32
  let v6 : BitVec 1 := Scalar.cmpi .sgt v1 c4096_i32_2
  let v7 : BitVec 1 := Scalar.andi v5 v6
  let v8 : BitVec 1 := Scalar.ori v_false v7
  let c17920_i32_3 : BitVec 32 := 17920#32
  let v12 : BitVec 1 := Scalar.cmpi .slt v0 c17920_i32_3
  let c17920_i32_4 : BitVec 32 := 17920#32
  let v13 : BitVec 1 := Scalar.cmpi .sgt v1 c17920_i32_4
  let v14 : BitVec 1 := Scalar.andi v12 v13
  let v15 : BitVec 1 := Scalar.ori v8 v14
  let c64576_i32_5 : BitVec 32 := 64576#32
  let v19 : BitVec 1 := Scalar.cmpi .slt v0 c64576_i32_5
  let c64576_i32_6 : BitVec 32 := 64576#32
  let v20 : BitVec 1 := Scalar.cmpi .sgt v1 c64576_i32_6
  let v21 : BitVec 1 := Scalar.andi v19 v20
  let v22 : BitVec 1 := Scalar.ori v15 v21
  let c222040_i32_7 : BitVec 32 := 222040#32
  let v26 : BitVec 1 := Scalar.cmpi .slt v0 c222040_i32_7
  let c222040_i32_8 : BitVec 32 := 222040#32
  let v27 : BitVec 1 := Scalar.cmpi .sgt v1 c222040_i32_8
  let v28 : BitVec 1 := Scalar.andi v26 v27
  let v29 : BitVec 1 := Scalar.ori v22 v28
  let c746328_i32_9 : BitVec 32 := 746328#32
  let v33 : BitVec 1 := Scalar.cmpi .slt v0 c746328_i32_9
  let c746328_i32_10 : BitVec 32 := 746328#32
  let v34 : BitVec 1 := Scalar.cmpi .sgt v1 c746328_i32_10
  let v35 : BitVec 1 := Scalar.andi v33 v34
  let v36 : BitVec 1 := Scalar.ori v29 v35
  let c1270616_i32_11 : BitVec 32 := 1270616#32
  let v40 : BitVec 1 := Scalar.cmpi .slt v0 c1270616_i32_11
  let c1270616_i32_12 : BitVec 32 := 1270616#32
  let v41 : BitVec 1 := Scalar.cmpi .sgt v1 c1270616_i32_12
  let v42 : BitVec 1 := Scalar.andi v40 v41
  let v43 : BitVec 1 := Scalar.ori v36 v42
  let c1794904_i32_13 : BitVec 32 := 1794904#32
  let v47 : BitVec 1 := Scalar.cmpi .slt v0 c1794904_i32_13
  let c1794904_i32_14 : BitVec 32 := 1794904#32
  let v48 : BitVec 1 := Scalar.cmpi .sgt v1 c1794904_i32_14
  let v49 : BitVec 1 := Scalar.andi v47 v48
  let v50 : BitVec 1 := Scalar.ori v43 v49
  let c2319192_i32_15 : BitVec 32 := 2319192#32
  let v54 : BitVec 1 := Scalar.cmpi .slt v0 c2319192_i32_15
  let c2319192_i32_16 : BitVec 32 := 2319192#32
  let v55 : BitVec 1 := Scalar.cmpi .sgt v1 c2319192_i32_16
  let v56 : BitVec 1 := Scalar.andi v54 v55
  let v57 : BitVec 1 := Scalar.ori v50 v56
  let c2843480_i32_17 : BitVec 32 := 2843480#32
  let v61 : BitVec 1 := Scalar.cmpi .slt v0 c2843480_i32_17
  let c2843480_i32_18 : BitVec 32 := 2843480#32
  let v62 : BitVec 1 := Scalar.cmpi .sgt v1 c2843480_i32_18
  let v63 : BitVec 1 := Scalar.andi v61 v62
  let v64 : BitVec 1 := Scalar.ori v57 v63
  let c3367768_i32_19 : BitVec 32 := 3367768#32
  let v68 : BitVec 1 := Scalar.cmpi .slt v0 c3367768_i32_19
  let c3367768_i32_20 : BitVec 32 := 3367768#32
  let v69 : BitVec 1 := Scalar.cmpi .sgt v1 c3367768_i32_20
  let v70 : BitVec 1 := Scalar.andi v68 v69
  let v71 : BitVec 1 := Scalar.ori v64 v70
  let c3892056_i32_21 : BitVec 32 := 3892056#32
  let v75 : BitVec 1 := Scalar.cmpi .slt v0 c3892056_i32_21
  let c3892056_i32_22 : BitVec 32 := 3892056#32
  let v76 : BitVec 1 := Scalar.cmpi .sgt v1 c3892056_i32_22
  let v77 : BitVec 1 := Scalar.andi v75 v76
  let v78 : BitVec 1 := Scalar.ori v71 v77
  let c4416344_i32_23 : BitVec 32 := 4416344#32
  let v82 : BitVec 1 := Scalar.cmpi .slt v0 c4416344_i32_23
  let c4416344_i32_24 : BitVec 32 := 4416344#32
  let v83 : BitVec 1 := Scalar.cmpi .sgt v1 c4416344_i32_24
  let v84 : BitVec 1 := Scalar.andi v82 v83
  let v85 : BitVec 1 := Scalar.ori v78 v84
  let c4940632_i32_25 : BitVec 32 := 4940632#32
  let v89 : BitVec 1 := Scalar.cmpi .slt v0 c4940632_i32_25
  let c4940632_i32_26 : BitVec 32 := 4940632#32
  let v90 : BitVec 1 := Scalar.cmpi .sgt v1 c4940632_i32_26
  let v91 : BitVec 1 := Scalar.andi v89 v90
  let v92 : BitVec 1 := Scalar.ori v85 v91
  let c5464920_i32_27 : BitVec 32 := 5464920#32
  let v96 : BitVec 1 := Scalar.cmpi .slt v0 c5464920_i32_27
  let c5464920_i32_28 : BitVec 32 := 5464920#32
  let v97 : BitVec 1 := Scalar.cmpi .sgt v1 c5464920_i32_28
  let v98 : BitVec 1 := Scalar.andi v96 v97
  let v99 : BitVec 1 := Scalar.ori v92 v98
  let c5989208_i32_29 : BitVec 32 := 5989208#32
  let v103 : BitVec 1 := Scalar.cmpi .slt v0 c5989208_i32_29
  let c5989208_i32_30 : BitVec 32 := 5989208#32
  let v104 : BitVec 1 := Scalar.cmpi .sgt v1 c5989208_i32_30
  let v105 : BitVec 1 := Scalar.andi v103 v104
  let v106 : BitVec 1 := Scalar.ori v99 v105
  let c6513496_i32_31 : BitVec 32 := 6513496#32
  let v110 : BitVec 1 := Scalar.cmpi .slt v0 c6513496_i32_31
  let c6513496_i32_32 : BitVec 32 := 6513496#32
  let v111 : BitVec 1 := Scalar.cmpi .sgt v1 c6513496_i32_32
  let v112 : BitVec 1 := Scalar.andi v110 v111
  let v113 : BitVec 1 := Scalar.ori v106 v112
  let v121 : BitVec 32 := Scalar.extui v113
  let c0_i32_38 : BitVec 32 := 0#32
  let v122 : BitVec 1 := Scalar.cmpi .ne v121 c0_i32_38
  v122

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 1 → Memref sig .tc .vmem S16x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S16x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S2x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S2x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x2x131072 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S6513496x4x2 : Shape := ⟨3, ![6513496, 4, 2]⟩
abbrev S17 : Shape := ⟨1, ![17]⟩
abbrev S16 : Shape := ⟨1, ![16]⟩
abbrev S2x2 : Shape := ⟨2, ![2, 2]⟩
abbrev S2 : Shape := ⟨1, ![2]⟩
abbrev S6513496 : Shape := ⟨1, ![6513496]⟩
abbrev S1x16 : Shape := ⟨2, ![1, 16]⟩
abbrev S6513496x1 : Shape := ⟨2, ![6513496, 1]⟩
abbrev S6513496x16 : Shape := ⟨2, ![6513496, 16]⟩
abbrev S_ : Shape := ⟨0, ![]⟩
abbrev S6513496x8 : Shape := ⟨2, ![6513496, 8]⟩
abbrev S16x8 : Shape := ⟨2, ![16, 8]⟩
abbrev S16x1 : Shape := ⟨2, ![16, 1]⟩
abbrev S1 : Shape := ⟨1, ![1]⟩
abbrev S1x1 : Shape := ⟨2, ![1, 1]⟩
abbrev S1x1x2 : Shape := ⟨3, ![1, 1, 2]⟩

abbrev nBuf : Space → Nat
  | .hbm => 58
  | .vmem => 0
  | .smem => 0
  | _ => 0

abbrev bufTy : (tb : Table) → Fin (tcTables nBuf tb) → BufTy
  | .hbm, ⟨0, _⟩ => ⟨S6513496x4x2, .f32⟩
  | .hbm, ⟨1, _⟩ => ⟨S17, .i32⟩
  | .hbm, ⟨2, _⟩ => ⟨S16, .i32⟩
  | .hbm, ⟨3, _⟩ => ⟨S2x2, .f32⟩
  | .hbm, ⟨4, _⟩ => ⟨S2, .f32⟩
  | .hbm, ⟨5, _⟩ => ⟨S6513496, .i32⟩
  | .hbm, ⟨6, _⟩ => ⟨S16, .i32⟩
  | .hbm, ⟨7, _⟩ => ⟨S1x16, .i32⟩
  | .hbm, ⟨8, _⟩ => ⟨S6513496x1, .i32⟩
  | .hbm, ⟨9, _⟩ => ⟨S6513496x16, .i32⟩
  | .hbm, ⟨10, _⟩ => ⟨S6513496x16, .i32⟩
  | .hbm, ⟨11, _⟩ => ⟨S6513496x16, .i1⟩
  | .hbm, ⟨12, _⟩ => ⟨S6513496x16, .i32⟩
  | .hbm, ⟨13, _⟩ => ⟨S_, .i32⟩
  | .hbm, ⟨14, _⟩ => ⟨S6513496, .i32⟩
  | .hbm, ⟨15, _⟩ => ⟨S6513496x8, .f32⟩
  | .hbm, ⟨16, _⟩ => ⟨S_, .f32⟩
  | .hbm, ⟨17, _⟩ => ⟨S16x8, .f32⟩
  | .hbm, ⟨18, _⟩ => ⟨S6513496x1, .i32⟩
  | .hbm, ⟨19, _⟩ => ⟨S16x8, .f32⟩
  | .hbm, ⟨20, _⟩ => ⟨S_, .f32⟩
  | .hbm, ⟨21, _⟩ => ⟨S6513496, .f32⟩
  | .hbm, ⟨22, _⟩ => ⟨S_, .f32⟩
  | .hbm, ⟨23, _⟩ => ⟨S16, .f32⟩
  | .hbm, ⟨24, _⟩ => ⟨S6513496x1, .i32⟩
  | .hbm, ⟨25, _⟩ => ⟨S16, .f32⟩
  | .hbm, ⟨26, _⟩ => ⟨S16x1, .f32⟩
  | .hbm, ⟨27, _⟩ => ⟨S16x8, .f32⟩
  | .hbm, ⟨28, _⟩ => ⟨S16x8, .f32⟩
  | .hbm, ⟨29, _⟩ => ⟨S_, .i32⟩
  | .hbm, ⟨30, _⟩ => ⟨S6513496, .i32⟩
  | .hbm, ⟨31, _⟩ => ⟨S6513496, .i1⟩
  | .hbm, ⟨32, _⟩ => ⟨S_, .i32⟩
  | .hbm, ⟨33, _⟩ => ⟨S6513496, .i32⟩
  | .hbm, ⟨34, _⟩ => ⟨S6513496, .i32⟩
  | .hbm, ⟨35, _⟩ => ⟨S6513496, .i32⟩
  | .hbm, ⟨36, _⟩ => ⟨S6513496x1, .i32⟩
  | .hbm, ⟨37, _⟩ => ⟨S1, .i32⟩
  | .hbm, ⟨38, _⟩ => ⟨S_, .i32⟩
  | .hbm, ⟨39, _⟩ => ⟨S6513496x1, .i32⟩
  | .hbm, ⟨40, _⟩ => ⟨S6513496x1, .i1⟩
  | .hbm, ⟨41, _⟩ => ⟨S1x1, .i32⟩
  | .hbm, ⟨42, _⟩ => ⟨S6513496x1, .i32⟩
  | .hbm, ⟨43, _⟩ => ⟨S6513496x1, .i1⟩
  | .hbm, ⟨44, _⟩ => ⟨S6513496x1, .i1⟩
  | .hbm, ⟨45, _⟩ => ⟨S_, .i1⟩
  | .hbm, ⟨46, _⟩ => ⟨S6513496, .i1⟩
  | .hbm, ⟨47, _⟩ => ⟨S6513496x8, .f32⟩
  | .hbm, ⟨48, _⟩ => ⟨S6513496x8, .i1⟩
  | .hbm, ⟨49, _⟩ => ⟨S_, .f32⟩
  | .hbm, ⟨50, _⟩ => ⟨S6513496x8, .f32⟩
  | .hbm, ⟨51, _⟩ => ⟨S6513496x8, .f32⟩
  | .hbm, ⟨52, _⟩ => ⟨S6513496x4x2, .f32⟩
  | .hbm, ⟨53, _⟩ => ⟨S2x2, .f32⟩
  | .hbm, ⟨54, _⟩ => ⟨S6513496x4x2, .f32⟩
  | .hbm, ⟨55, _⟩ => ⟨S1x1x2, .f32⟩
  | .hbm, ⟨56, _⟩ => ⟨S6513496x4x2, .f32⟩
  | .hbm, ⟨57, _⟩ => ⟨S6513496x4x2, .f32⟩
  | _, _ => ⟨S6513496x4x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩

abbrev nD : Nat := 1
abbrev τ : Topo := Topo.v7x

variable {F : FTy → Type} [FloatOps F]
-- ==== Proof.Words.lean ====
/-
  The kernel's scalar words. Each body compares its block's first entry `g · 131072` with the sixteen level ends: the
  number of ends at or below it is the block's level, and an end strictly inside the block makes the block a mixed one.
  The printed bodies compute both in three parts; here they are two folds over the list of ends.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Tactic
public import Idealize.ShloMosaic.Lib.Pipeline.RegionArraysS
public import Idealize.ShloMosaic.Lib.Pipeline.KitQuiescent

@[expose] public section

noncomputable section

namespace Cert.GridProof

open Cert.KernelIdeal Cert.KernelIdeal.Gen
open Idealize.ShloMosaic Idealize.SL.Sem

variable {F : FTy → Type} [FloatOps F]

/-- The ends of the sixteen levels, as words. -/
def ends : List (BitVec 32) :=
  [4096#32, 17920#32, 64576#32, 222040#32, 746328#32, 1270616#32, 1794904#32, 2319192#32, 2843480#32, 3367768#32,
    3892056#32, 4416344#32, 4940632#32, 5464920#32, 5989208#32, 6513496#32]

/-- How many of the first `n` ends lie at or below entry `v`. -/
def lvlTo (n : ℕ) (v : BitVec 32) : BitVec 32 :=
  (ends.take n).foldl (fun a b => Scalar.addi a (Scalar.extui (Scalar.cmpi .sge v b))) 0#32

/-- Whether one of the first `n` ends lies strictly between entries `v` and `w`. -/
def crossTo (n : ℕ) (v w : BitVec 32) : BitVec 1 :=
  (ends.take n).foldl (fun a b => Scalar.ori a (Scalar.andi (Scalar.cmpi .slt v b) (Scalar.cmpi .sgt w b))) 0#1

/-- The grid's second coordinate as a word, the block's first entry, and one past its last. -/
def gw (g : ℕ) : BitVec 32 := BitVec.ofNat 32 g
def startW (g : ℕ) : BitVec 32 := Scalar.muli (gw g) 131072#32
def stopW (g : ℕ) : BitVec 32 := Scalar.addi (startW g) 131072#32

/-- The level of block `g`, and whether it is mixed. -/
def lvlW (g : ℕ) : BitVec 32 := lvlTo 16 (startW g)
def crossW (g : ℕ) : BitVec 1 := crossTo 16 (startW g) (stopW g)

theorem part1_eq (i : grid0.Coords) (arg2 : Memref sig .tc .vmem S16x1 .i32) (harg2 : arg2.IsWhole)
    (arg3 : Memref sig .tc .vmem S16x1 .i32) (harg3 : arg3.IsWhole) (arg4 : Memref sig .tc .vmem S1x2x131072 .f32)
    (harg4 : arg4.IsWhole) (arg5 : Memref sig .tc .vmem S1x2x16 .f32) (harg5 : arg5.IsWhole) :
    k0_part1 (F := F) i arg2 harg2 arg3 harg3 arg4 harg4 arg5 harg5
      = .ret ⟨gw (i 1).val, startW (i 1).val, stopW (i 1).val, lvlTo 5 (startW (i 1).val),
          crossTo 5 (startW (i 1).val) (stopW (i 1).val), Scalar.cmpi .sge (startW (i 1).val) 1270616#32⟩ := rfl

theorem part2_eq (i : grid0.Coords) (arg2 : Memref sig .tc .vmem S16x1 .i32) (harg2 : arg2.IsWhole)
    (arg3 : Memref sig .tc .vmem S16x1 .i32) (harg3 : arg3.IsWhole) (arg4 : Memref sig .tc .vmem S1x2x131072 .f32)
    (harg4 : arg4.IsWhole) (arg5 : Memref sig .tc .vmem S1x2x16 .f32) (harg5 : arg5.IsWhole) (v w : BitVec 32) :
    k0_part2 (F := F) i arg2 harg2 arg3 harg3 arg4 harg4 arg5 harg5 v w (lvlTo 5 v) (crossTo 5 v w)
        (Scalar.cmpi .sge v 1270616#32)
      = .ret ⟨lvlTo 11 v, crossTo 11 v w, Scalar.cmpi .sge v 4416344#32⟩ := rfl

/-- Every word of the grid's columns: a block is mixed, or it lies inside one level. -/
theorem crossW_cases (g : ℕ) : crossW g = 1#1 ∨ crossW g = 0#1 := by
  generalize crossW g = x
  revert x; decide

/-- The branch conditions: the first block of a column; an unmixed block; a mixed one. -/
theorem cond1_iff (i : grid0.Coords) : k0_cond1 i = 1#1 ↔ (i 1).val = 0 := by
  have h : ∀ g : Fin 50, (Scalar.cmpi .ne (Scalar.extui (Scalar.cmpi .eq (BitVec.ofNat 32 g.val) 0#32) : BitVec 32) 0#32 = 1#1)
      ↔ g.val = 0 := by decide +kernel
  exact h (i 1)

theorem word_not (x : BitVec 1) :
    Scalar.cmpi .ne (Scalar.extui (Scalar.xori x 1#1) : BitVec 32) 0#32 = 1#1 ↔ x = 0#1 := by revert x; decide

theorem word_yes (x : BitVec 1) :
    Scalar.cmpi .ne (Scalar.extui x : BitVec 32) 0#32 = 1#1 ↔ x = 1#1 := by revert x; decide

theorem cond2_iff (i : grid0.Coords) : k0_cond2 i = 1#1 ↔ crossW (i 1).val = 0#1 := word_not (crossW (i 1).val)
theorem cond3_iff (i : grid0.Coords) : k0_cond3 i = 1#1 ↔ crossW (i 1).val = 1#1 := word_yes (crossW (i 1).val)
theorem cond4_iff (i : grid1.Coords) : k1_cond1 i = 1#1 ↔ crossW (i 1).val = 0#1 := word_not (crossW (i 1).val)
theorem cond5_iff (i : grid1.Coords) : k1_cond2 i = 1#1 ↔ crossW (i 1).val = 1#1 := word_yes (crossW (i 1).val)

/-- The first block of a column is mixed. -/
theorem crossW_zero : crossW 0 = 1#1 := by decide +kernel

end Cert.GridProof
-- ==== Proof.Body0.lean ====
/-
  What one run of the reducing body does. It reads its tile of points and adds, level by level, the tile's sums to the
  running sums its output block holds: a mixed tile by a product with the level indicator, an unmixed one by a plain row
  sum put at the tile's level. The first tile of a column starts from zeros.
-/
module

public import proofs.«01_k».proof.Proof.Words

@[expose] public section

noncomputable section

namespace Cert.GridProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The proof's resource algebra: one copy of the rounds library's. -/
abbrev EP : Emb (UR sig nD τ) (MT nD τ sig Unit (Elt F) ℕ (UR sig nD τ) ℕ) := emb₁

/-- The kernel's variants: none. -/
abbrev 𝒱₀ : Variants := Variants.none

/-- A load of a whole buffer at offsets zero reads what the buffer holds. -/
theorem readAt_full {κ : Kind} {sp : Space} {s : Shape} {e : EltTy} {m : Memref sig κ sp s e} (h : m.IsWhole)
    {off : Fin s.rank → ℕ} (hz : off = fun _ => 0) (inb : ∀ a, off a + s.size a ≤ s.size a) (f : m.view.ty.Contents (Elt F)) :
    m.view.readAt (Elt F) (Rect.unit off s.size inb).toLoadRect f = m.view.read (Elt F) f := by
  obtain ⟨b, rfl, rfl, rfl, hm⟩ := h; cases hm
  exact Memref.readAt_unit_zero (Elt F) b hz inb f

/-- A whole store at offsets zero leaves the payload. -/
theorem read_write_full {κ : Kind} {sp : Space} {s : Shape} {e : EltTy} {m : Memref sig κ sp s e} (h : m.IsWhole)
    {off : Fin s.rank → ℕ} (hz : off = fun _ => 0) (inb : ∀ a, off a + s.size a ≤ s.size a) (f : m.view.ty.Contents (Elt F))
    (w : s.Idx → Elt F e) :
    m.view.read (Elt F) ((m.access (Rect.unit off s.size inb)).write (Elt F) f w Finset.univ) = w := by
  obtain ⟨b, rfl, rfl, rfl, hm⟩ := h; cases hm
  rw [Memref.write_access_unit_zero_univ (Elt F) b hz inb f w]
  rfl

/-- The same of a run of stores whose last one is whole. -/
theorem read_writes_full {κ : Kind} {sp : Space} {s : Shape} {e : EltTy} {m : Memref sig κ sp s e} (h : m.IsWhole)
    {off : Fin s.rank → ℕ} (hz : off = fun _ => 0) (inb : ∀ a, off a + s.size a ≤ s.size a) (f : m.view.ty.Contents (Elt F))
    (w : s.Idx → Elt F e) (L : List (View.Piece (Elt F) s e)) :
    m.view.read (Elt F) (m.view.writes (Elt F) f (⟨Rect.unit off s.size inb, w⟩ :: L)) = w :=
  read_write_full h hz inb _ w

theorem z2 : (![0, 0] : Fin 2 → ℕ) = fun _ => 0 := funext fun a => by fin_cases a <;> rfl
theorem z3 : (![0, 0, 0] : Fin 3 → ℕ) = fun _ => 0 := funext fun a => by fin_cases a <;> rfl

/-- What one run of the body at column `g` leaves in the output block that held `old`. -/
def step0 (g : ℕ) (lo hi : Vec F S16x1 .i32) (x : Vec F S1x2x131072 .f32) (old : Vec F S1x2x16 .f32) : Vec F S1x2x16 .f32 :=
  if crossW g = 1#1 then k0_pay1 (gw g) x lo hi old
  else k0_pay3 (startW g) (lvlTo 11 (startW g)) (Scalar.cmpi .sge (startW g) 4416344#32) x old

section
variable (c : Dev nD) (E : Set ℕ) (i : grid0.Coords)
  (M2 : Memref sig .tc .vmem S16x1 .i32) (h2 : M2.IsWhole) (M3 : Memref sig .tc .vmem S16x1 .i32) (h3 : M3.IsWhole)
  (M4 : Memref sig .tc .vmem S1x2x131072 .f32) (h4 : M4.IsWhole) (M5 : Memref sig .tc .vmem S1x2x16 .f32) (h5 : M5.IsWhole)
  (X2 X3 : Vec F S16x1 .i32) (X4 : Vec F S1x2x131072 .f32) (X5 : Vec F S1x2x16 .f32)

/-- The first block of a column, from zeros. -/
theorem body0_first (hg : (i 1).val = 0) (K : PUnit → sProp 𝕄) :
    iprop((owns (c : Thread nD τ) M2 fullShare X2 ∗ owns (c : Thread nD τ) M3 fullShare X3
            ∗ owns (c : Thread nD τ) M4 fullShare X4 ∗ owns (c : Thread nD τ) M5 fullShare X5)
          ∗ (iprop(owns (c : Thread nD τ) M2 fullShare X2 ∗ owns (c : Thread nD τ) M3 fullShare X3
            ∗ owns (c : Thread nD τ) M4 fullShare X4 ∗ owns (c : Thread nD τ) M5 fullShare (step0 (i 1).val X2 X3 X4 k0_pay2)) -∗ K ⟨⟩))
      ⊢ wp frame (wpE (defs₀ (F := F)) 𝒱₀ c none) E (cc0__reduce_body i M2 h2 M3 h3 M4 h4 M5 h5) K := by
  have hx : crossW (i 1).val = 1#1 := by rw [hg]; exact crossW_zero
  have hc1 := (cond1_iff i).2 hg
  have hc2 : ¬ k0_cond2 i = 1#1 := fun h => by have := (cond2_iff i).1 h; rw [hx] at this; exact absurd this (by decide)
  have hc3 := (cond3_iff i).2 hx
  rw [step0, if_pos hx, cc0__reduce_body_eq_skeleton]; unfold cc0__reduce_body_skel
  simp only [part1_eq, Prog.bind_ret, part2_eq, k0_part3_eq_skeleton]
  unfold k0_part3_skel
  simp only [dif_pos hc1, dif_neg hc2, dif_pos hc3, Prog.lift, Prog.bind_op, Prog.bind_ret, pure_bind]
  unfold owns
  iintro ⟨⟨⟨%f2, %hf2, H2⟩, ⟨%f3, %hf3, H3⟩, ⟨%f4, %hf4, H4⟩, ⟨%f5, %hf5, H5⟩⟩, Hk⟩
  sl_steps
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  iexists _; isplitr; rotate_left
  · iexact H5
  · ipureintro
    refine (read_writes_full (F := F) h5 z3 _ _ _ _).trans ?_
    rw [readAt_full (F := F) h4 z3, hf4, readAt_full (F := F) h2 z2, hf2, readAt_full (F := F) h3 z2, hf3, readAt_full (F := F) h5 z3, read_write_full h5 z3]

/-- A later block, mixed. -/
theorem body0_mixed (hg : (i 1).val ≠ 0) (hx : crossW (i 1).val = 1#1) (K : PUnit → sProp 𝕄) :
    iprop((owns (c : Thread nD τ) M2 fullShare X2 ∗ owns (c : Thread nD τ) M3 fullShare X3
            ∗ owns (c : Thread nD τ) M4 fullShare X4 ∗ owns (c : Thread nD τ) M5 fullShare X5)
          ∗ (iprop(owns (c : Thread nD τ) M2 fullShare X2 ∗ owns (c : Thread nD τ) M3 fullShare X3
            ∗ owns (c : Thread nD τ) M4 fullShare X4 ∗ owns (c : Thread nD τ) M5 fullShare (step0 (i 1).val X2 X3 X4 X5)) -∗ K ⟨⟩))
      ⊢ wp frame (wpE (defs₀ (F := F)) 𝒱₀ c none) E (cc0__reduce_body i M2 h2 M3 h3 M4 h4 M5 h5) K := by
  have hc1 : ¬ k0_cond1 i = 1#1 := fun h => hg ((cond1_iff i).1 h)
  have hc2 : ¬ k0_cond2 i = 1#1 := fun h => by have := (cond2_iff i).1 h; rw [hx] at this; exact absurd this (by decide)
  have hc3 := (cond3_iff i).2 hx
  rw [step0, if_pos hx, cc0__reduce_body_eq_skeleton]; unfold cc0__reduce_body_skel
  simp only [part1_eq, Prog.bind_ret, part2_eq, k0_part3_eq_skeleton]
  unfold k0_part3_skel
  simp only [dif_neg hc1, dif_neg hc2, dif_pos hc3, Prog.lift, Prog.bind_op, Prog.bind_ret, pure_bind]
  unfold owns
  iintro ⟨⟨⟨%f2, %hf2, H2⟩, ⟨%f3, %hf3, H3⟩, ⟨%f4, %hf4, H4⟩, ⟨%f5, %hf5, H5⟩⟩, Hk⟩
  sl_steps
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  iexists _; isplitr; rotate_left
  · iexact H5
  · ipureintro
    refine (read_write_full (F := F) h5 z3 _ _ _).trans ?_
    rw [readAt_full (F := F) h4 z3, hf4, readAt_full (F := F) h2 z2, hf2, readAt_full (F := F) h3 z2, hf3, readAt_full (F := F) h5 z3, hf5]

/-- A later block inside one level. -/
theorem body0_plain (hg : (i 1).val ≠ 0) (hx : crossW (i 1).val = 0#1) (K : PUnit → sProp 𝕄) :
    iprop((owns (c : Thread nD τ) M2 fullShare X2 ∗ owns (c : Thread nD τ) M3 fullShare X3
            ∗ owns (c : Thread nD τ) M4 fullShare X4 ∗ owns (c : Thread nD τ) M5 fullShare X5)
          ∗ (iprop(owns (c : Thread nD τ) M2 fullShare X2 ∗ owns (c : Thread nD τ) M3 fullShare X3
            ∗ owns (c : Thread nD τ) M4 fullShare X4 ∗ owns (c : Thread nD τ) M5 fullShare (step0 (i 1).val X2 X3 X4 X5)) -∗ K ⟨⟩))
      ⊢ wp frame (wpE (defs₀ (F := F)) 𝒱₀ c none) E (cc0__reduce_body i M2 h2 M3 h3 M4 h4 M5 h5) K := by
  have hx1 : ¬ crossW (i 1).val = 1#1 := by rw [hx]; decide
  have hc1 : ¬ k0_cond1 i = 1#1 := fun h => hg ((cond1_iff i).1 h)
  have hc2 := (cond2_iff i).2 hx
  have hc3 : ¬ k0_cond3 i = 1#1 := fun h => hx1 ((cond3_iff i).1 h)
  rw [step0, if_neg hx1, cc0__reduce_body_eq_skeleton]; unfold cc0__reduce_body_skel
  simp only [part1_eq, Prog.bind_ret, part2_eq, k0_part3_eq_skeleton]
  unfold k0_part3_skel
  simp only [dif_neg hc1, dif_pos hc2, dif_neg hc3, Prog.lift, Prog.bind_op, Prog.bind_ret, pure_bind]
  unfold owns
  iintro ⟨⟨⟨%f2, %hf2, H2⟩, ⟨%f3, %hf3, H3⟩, ⟨%f4, %hf4, H4⟩, ⟨%f5, %hf5, H5⟩⟩, Hk⟩
  sl_steps
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  iexists _; isplitr; rotate_left
  · iexact H5
  · ipureintro
    refine (read_write_full (F := F) h5 z3 _ _ _).trans ?_
    rw [readAt_full (F := F) h4 z3, hf4, readAt_full (F := F) h5 z3, hf5]

/-- Any block: from the running sums `base`, zeros at the column's first block. -/
theorem body0 (K : PUnit → sProp 𝕄) :
    iprop((owns (c : Thread nD τ) M2 fullShare X2 ∗ owns (c : Thread nD τ) M3 fullShare X3
            ∗ owns (c : Thread nD τ) M4 fullShare X4 ∗ owns (c : Thread nD τ) M5 fullShare X5)
          ∗ (iprop(owns (c : Thread nD τ) M2 fullShare X2 ∗ owns (c : Thread nD τ) M3 fullShare X3
            ∗ owns (c : Thread nD τ) M4 fullShare X4
            ∗ owns (c : Thread nD τ) M5 fullShare (step0 (i 1).val X2 X3 X4 (if (i 1).val = 0 then k0_pay2 else X5))) -∗ K ⟨⟩))
      ⊢ wp frame (wpE (defs₀ (F := F)) 𝒱₀ c none) E (cc0__reduce_body i M2 h2 M3 h3 M4 h4 M5 h5) K := by
  by_cases hg : (i 1).val = 0
  · rw [if_pos hg]; exact body0_first c E i M2 h2 M3 h3 M4 h4 M5 h5 X2 X3 X4 X5 hg K
  · rw [if_neg hg]
    rcases crossW_cases (i 1).val with hx | hx
    · exact body0_mixed c E i M2 h2 M3 h3 M4 h4 M5 h5 X2 X3 X4 X5 hg hx K
    · exact body0_plain c E i M2 h2 M3 h3 M4 h4 M5 h5 X2 X3 X4 X5 hg hx K
end

end Cert.GridProof
-- ==== Proof.Body1.lean ====
/-
  What one run of the broadcasting body does: it scales the level sums by the reciprocal counts, applies the dense layer
  and stores the result of its tile, column by column of the tile's level.
-/
module

public import proofs.«01_k».proof.Proof.Body0

@[expose] public section

noncomputable section

namespace Cert.GridProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What one run of the body at column `g` stores. -/
def step1 (g : ℕ) (lo hi : Vec F S16x1 .i32) (ic : Vec F S16x1 .f32) (sums : Vec F S1x2x16 .f32) (w : Vec F S2x2 .f32)
    (b : Vec F S2x1 .f32) : Vec F S1x2x131072 .f32 :=
  if crossW g = 1#1 then k1_pay2 (gw g) (k1_pay3 w sums) lo hi ic b
  else k1_pay1 (lvlW g) (k1_pay3 w sums) ic b

section
variable (c : Dev nD) (E : Set ℕ) (i : grid1.Coords)
    (M2 : Memref sig .tc .vmem S16x1 .i32) (h2 : M2.IsWhole)
    (M3 : Memref sig .tc .vmem S16x1 .i32) (h3 : M3.IsWhole)
    (M4 : Memref sig .tc .vmem S16x1 .f32) (h4 : M4.IsWhole)
    (M5 : Memref sig .tc .vmem S1x2x16 .f32) (h5 : M5.IsWhole)
    (M6 : Memref sig .tc .vmem S2x2 .f32) (h6 : M6.IsWhole)
    (M7 : Memref sig .tc .vmem S2x1 .f32) (h7 : M7.IsWhole)
    (M8 : Memref sig .tc .vmem S1x2x131072 .f32) (h8 : M8.IsWhole)
    (X2 X3 : Vec F S16x1 .i32) (X4 : Vec F S16x1 .f32) (X5 : Vec F S1x2x16 .f32) (X6 : Vec F S2x2 .f32)
    (X7 : Vec F S2x1 .f32) (X8 : Vec F S1x2x131072 .f32)

theorem part1_eq1 :
    k1_part1 (F := F) i M2 h2 M3 h3 M4 h4 M5 h5 M6 h6 M7 h7 M8 h8
      = .ret ⟨gw (i 1).val, startW (i 1).val, stopW (i 1).val, lvlTo 5 (startW (i 1).val),
          crossTo 5 (startW (i 1).val) (stopW (i 1).val), Scalar.cmpi .sge (startW (i 1).val) 1270616#32⟩ := rfl

theorem part2_eq1 (v w : BitVec 32) :
    k1_part2 (F := F) i M2 h2 M3 h3 M4 h4 M5 h5 M6 h6 M7 h7 M8 h8 v w (lvlTo 5 v) (crossTo 5 v w)
        (Scalar.cmpi .sge v 1270616#32)
      = .ret ⟨lvlTo 11 v, crossTo 11 v w, Scalar.cmpi .sge v 4416344#32⟩ := rfl

/-- A mixed tile. -/
theorem body1_mixed (hx : crossW (i 1).val = 1#1) (K : PUnit → sProp 𝕄) :
    iprop((owns (c : Thread nD τ) M2 fullShare X2 ∗ owns (c : Thread nD τ) M3 fullShare X3
            ∗ owns (c : Thread nD τ) M4 fullShare X4 ∗ owns (c : Thread nD τ) M5 fullShare X5
            ∗ owns (c : Thread nD τ) M6 fullShare X6 ∗ owns (c : Thread nD τ) M7 fullShare X7
            ∗ owns (c : Thread nD τ) M8 fullShare X8)
          ∗ (iprop(owns (c : Thread nD τ) M2 fullShare X2 ∗ owns (c : Thread nD τ) M3 fullShare X3
            ∗ owns (c : Thread nD τ) M4 fullShare X4 ∗ owns (c : Thread nD τ) M5 fullShare X5
            ∗ owns (c : Thread nD τ) M6 fullShare X6 ∗ owns (c : Thread nD τ) M7 fullShare X7
            ∗ owns (c : Thread nD τ) M8 fullShare (step1 (i 1).val X2 X3 X4 X5 X6 X7)) -∗ K ⟨⟩))
      ⊢ wp frame (wpE (defs₀ (F := F)) 𝒱₀ c none) E (cc1__bcast_body i M2 h2 M3 h3 M4 h4 M5 h5 M6 h6 M7 h7 M8 h8) K := by
  have hc1 : ¬ k1_cond1 i = 1#1 := fun h => by have := (cond4_iff i).1 h; rw [hx] at this; exact absurd this (by decide)
  have hc2 := (cond5_iff i).2 hx
  rw [step1, if_pos hx, cc1__bcast_body_eq_skeleton]; unfold cc1__bcast_body_skel
  simp only [part1_eq1, Prog.bind_ret, part2_eq1, k1_part3_eq_skeleton]
  unfold k1_part3_skel
  simp only [dif_neg hc1, dif_pos hc2, Prog.lift, Prog.bind_op, Prog.bind_ret, pure_bind]
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  sl_steps
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; rotate_left
  · iexact H8
  · ipureintro
    refine (read_write_full (F := F) h8 z3 _ _ _).trans ?_
    rw [readAt_full (F := F) h2 z2, hf2, readAt_full (F := F) h3 z2, hf3, readAt_full (F := F) h4 z2, hf4, readAt_full (F := F) h5 z3, hf5, readAt_full (F := F) h6 z2, hf6, readAt_full (F := F) h7 z2, hf7]

/-- A tile inside one level. -/
theorem body1_plain (hx : crossW (i 1).val = 0#1) (K : PUnit → sProp 𝕄) :
    iprop((owns (c : Thread nD τ) M2 fullShare X2 ∗ owns (c : Thread nD τ) M3 fullShare X3
            ∗ owns (c : Thread nD τ) M4 fullShare X4 ∗ owns (c : Thread nD τ) M5 fullShare X5
            ∗ owns (c : Thread nD τ) M6 fullShare X6 ∗ owns (c : Thread nD τ) M7 fullShare X7
            ∗ owns (c : Thread nD τ) M8 fullShare X8)
          ∗ (iprop(owns (c : Thread nD τ) M2 fullShare X2 ∗ owns (c : Thread nD τ) M3 fullShare X3
            ∗ owns (c : Thread nD τ) M4 fullShare X4 ∗ owns (c : Thread nD τ) M5 fullShare X5
            ∗ owns (c : Thread nD τ) M6 fullShare X6 ∗ owns (c : Thread nD τ) M7 fullShare X7
            ∗ owns (c : Thread nD τ) M8 fullShare (step1 (i 1).val X2 X3 X4 X5 X6 X7)) -∗ K ⟨⟩))
      ⊢ wp frame (wpE (defs₀ (F := F)) 𝒱₀ c none) E (cc1__bcast_body i M2 h2 M3 h3 M4 h4 M5 h5 M6 h6 M7 h7 M8 h8) K := by
  have hx1 : ¬ crossW (i 1).val = 1#1 := by rw [hx]; decide
  have hc1 := (cond4_iff i).2 hx
  have hc2 : ¬ k1_cond2 i = 1#1 := fun h => hx1 ((cond5_iff i).1 h)
  rw [step1, if_neg hx1, cc1__bcast_body_eq_skeleton]; unfold cc1__bcast_body_skel
  simp only [part1_eq1, Prog.bind_ret, part2_eq1, k1_part3_eq_skeleton]
  unfold k1_part3_skel
  simp only [dif_pos hc1, dif_neg hc2, Prog.lift, Prog.bind_op, Prog.bind_ret, pure_bind]
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  sl_steps
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; rotate_left
  · iexact H8
  · ipureintro
    refine (read_write_full (F := F) h8 z3 _ _ _).trans ?_
    rw [readAt_full (F := F) h4 z2, hf4, readAt_full (F := F) h5 z3, hf5, readAt_full (F := F) h6 z2, hf6, readAt_full (F := F) h7 z2, hf7]
    rfl

/-- Any tile. -/
theorem body1 (K : PUnit → sProp 𝕄) :
    iprop((owns (c : Thread nD τ) M2 fullShare X2 ∗ owns (c : Thread nD τ) M3 fullShare X3
            ∗ owns (c : Thread nD τ) M4 fullShare X4 ∗ owns (c : Thread nD τ) M5 fullShare X5
            ∗ owns (c : Thread nD τ) M6 fullShare X6 ∗ owns (c : Thread nD τ) M7 fullShare X7
            ∗ owns (c : Thread nD τ) M8 fullShare X8)
          ∗ (iprop(owns (c : Thread nD τ) M2 fullShare X2 ∗ owns (c : Thread nD τ) M3 fullShare X3
            ∗ owns (c : Thread nD τ) M4 fullShare X4 ∗ owns (c : Thread nD τ) M5 fullShare X5
            ∗ owns (c : Thread nD τ) M6 fullShare X6 ∗ owns (c : Thread nD τ) M7 fullShare X7
            ∗ owns (c : Thread nD τ) M8 fullShare (step1 (i 1).val X2 X3 X4 X5 X6 X7)) -∗ K ⟨⟩))
      ⊢ wp frame (wpE (defs₀ (F := F)) 𝒱₀ c none) E (cc1__bcast_body i M2 h2 M3 h3 M4 h4 M5 h5 M6 h6 M7 h7 M8 h8) K := by
  rcases crossW_cases (i 1).val with hx | hx
  · exact body1_mixed c E i M2 h2 M3 h3 M4 h4 M5 h5 M6 h6 M7 h7 M8 h8 X2 X3 X4 X5 X6 X7 X8 hx K
  · exact body1_plain c E i M2 h2 M3 h3 M4 h4 M5 h5 M6 h6 M7 h7 M8 h8 X2 X3 X4 X5 X6 X7 X8 hx K
end

end Cert.GridProof
-- ==== Proof.Mask.lean ====
/-
  The last tile of the grid overhangs the array: its fetch leaves entries past the end that nothing names. The mixed
  tile's sum masks them out, and an unmixed tile never overhangs, so what the body stores does not depend on them.
-/
module

public import proofs.«01_k».proof.Proof.Body1
public import Idealize.ShloMosaic.Lib.Pointwise
public import Idealize.ShloMosaic.Lib.WordCmp

@[expose] public section

noncomputable section

namespace Cert.GridProof

open Cert.KernelIdeal Cert.KernelIdeal.Gen
open Idealize.ShloMosaic
open Idealize.ShloMosaic.TcCoe
open Idealize.SL.Sem

variable {F : FTy → Type} [FloatOps F]

/-- The word of entry `g · 131072 + j` of the array. -/
theorem entry_word (g j : ℕ) :
    IntOp.addi (Scalar.muli (gw g) 131072#32) (BitVec.ofNat 32 j) = BitVec.ofNat 32 (g * 131072 + j) := by
  show BitVec.ofNat 32 g * 131072#32 + BitVec.ofNat 32 j = _
  apply BitVec.eq_of_toNat_eq
  simp [BitVec.toNat_add, BitVec.toNat_mul]

/-- A mixed tile's new sums do not depend on the entries past the array's end. -/
theorem pay1_congr (g : ℕ) (x x' : Vec F S1x2x131072 .f32) (lo hi : Vec F S16x1 .i32) (old : Vec F S1x2x16 .f32)
    (hg : g < 50)
    (h : ∀ j : S1x2x131072.Idx, g * 131072 + (j 2).val < 6513496 → x j = x' j) :
    k0_pay1 (gw g) x lo hi old = k0_pay1 (gw g) x' lo hi old := by
  unfold k0_pay1
  dsimp only
  congr 3
  funext j
  idx_vars j
  pointwise
  rw [entry_word]
  unfold Scalar.select
  by_cases hj : g * 131072 + j1.val < 6513496
  · rw [h (ix3 0 j0 j1) hj]
  · have e : IntOp.cmpi CmpIPredicate.slt (BitVec.ofNat 32 (g * 131072 + j1.val)) 6513496#32 = 0#1 :=
      (WordCmp.cmpi_slt_ofNat_eq_zero_iff (w := 32) (by omega) (by omega)).2 hj
    rw [e, if_neg (by decide), if_neg (by decide)]

/-- An unmixed tile lies inside the array. -/
theorem plain_inside : ∀ g : Fin 50, crossW g.val = 0#1 → (g.val + 1) * 131072 ≤ 6513496 := by decide +kernel

/-- So one run's new sums do not depend on the entries past the array's end. -/
theorem step0_congr (g : Fin 50) (lo hi : Vec F S16x1 .i32) (x x' : Vec F S1x2x131072 .f32) (old : Vec F S1x2x16 .f32)
    (h : ∀ j : S1x2x131072.Idx, g.val * 131072 + (j 2).val < 6513496 → x j = x' j) :
    step0 g.val lo hi x old = step0 g.val lo hi x' old := by
  unfold step0
  split
  · exact pay1_congr g.val x x' lo hi old g.isLt h
  · rename_i hx
    have hin := plain_inside g ((crossW_cases g.val).resolve_left hx)
    rw [show x = x' from funext fun j => h j (by have : (j 2).val < 131072 := (j 2).isLt; omega)]

end Cert.GridProof
-- ==== Proof.Levels.lean ====
module

public import Idealize.ShloMosaic.Lib.Pointwise
public import proofs.«01_k».proof.Proof.Mask

/-! The levels as numbers: which entries a level holds, and what the level's words say of an entry. -/

@[expose] public section

noncomputable section

namespace Cert.GridProof

open Cert.KernelIdeal Cert.KernelIdeal.Gen
open Idealize.ShloMosaic

/-- The first entry of a level, and one past its last. -/
def loN : Fin 16 → ℕ := ![0, 4096, 17920, 64576, 222040, 746328, 1270616, 1794904, 2319192, 2843480, 3367768, 3892056,
  4416344, 4940632, 5464920, 5989208]
def hiN : Fin 16 → ℕ := ![4096, 17920, 64576, 222040, 746328, 1270616, 1794904, 2319192, 2843480, 3367768, 3892056,
  4416344, 4940632, 5464920, 5989208, 6513496]

/-- One at the entries of level `l`, zero elsewhere. -/
def oh (l : Fin 16) (n : ℕ) : EReal := if loN l ≤ n ∧ n < hiN l then 1 else 0

theorem loN_le (l : Fin 16) : loN l ≤ hiN l := by revert l; decide
theorem hiN_le (l : Fin 16) : hiN l ≤ 6513496 := by revert l; decide

theorem oh_past (l : Fin 16) {n : ℕ} (h : 6513496 ≤ n) : oh l n = 0 := by
  have := hiN_le l
  exact if_neg (by omega)

/-- A block that is not mixed lies inside one level, the one its word names, and outside every other. -/
theorem plain_level : ∀ g : Fin 50, crossW g.val = 0#1 → ∀ l : Fin 16,
    (BitVec.ofNat 32 l.val = lvlW g.val ∧ loN l ≤ g.val * 131072 ∧ (g.val + 1) * 131072 ≤ hiN l)
    ∨ (BitVec.ofNat 32 l.val ≠ lvlW g.val ∧ (hiN l ≤ g.val * 131072 ∨ (g.val + 1) * 131072 ≤ loN l)) := by
  decide +kernel

/-- The selector of a block that is not mixed: one at the block's level. -/
theorem plain_sel (g : Fin 50) (hg : crossW g.val = 0#1) (l : Fin 16) (j : Fin 131072) :
    (if BitVec.ofNat 32 l.val = lvlW g.val then (1 : EReal) else 0) = oh l (g.val * 131072 + j.val) := by
  have hj := j.isLt
  unfold oh
  rcases plain_level g hg l with ⟨h, h1, h2⟩ | ⟨h, h'⟩
  · rw [if_pos h, if_pos (by omega)]
  · rw [if_neg h, if_neg (by omega)]

/-- A one-bit word as a number. -/
theorem bit_val (b : BitVec 1) :
    FloatOps.sitofp (F := Ideal) FTy.f32 (BitVec.setWidth 32 b) = (if b = 1#1 then (1 : EReal) else 0) := by
  show (((BitVec.setWidth 32 b).toInt : ℝ) : EReal) = _
  rcases (show b = 1#1 ∨ b = 0#1 from by revert b; decide) with rfl | rfl
  · rw [if_pos rfl, show (BitVec.setWidth 32 1#1).toInt = 1 from by decide]; norm_num
  · rw [if_neg (by decide), show (BitVec.setWidth 32 0#1).toInt = 0 from by decide]; norm_num

theorem andi_eq_one (a b : BitVec 1) : IntOp.andi a b = 1#1 ↔ a = 1#1 ∧ b = 1#1 := by revert a b; decide

theorem sge_word {a b : ℕ} (ha : a < 2 ^ 31) (hb : b < 2 ^ 31) :
    IntOp.cmpi CmpIPredicate.sge (BitVec.ofNat 32 a) (BitVec.ofNat 32 b) = 1#1 ↔ b ≤ a := by
  rw [WordCmp.cmpi_sge_ofNat (w := 32) ha hb, WordCmp.ofBool_decide_eq_one_iff]

/-- The mask that the kernel makes of an entry's word and a level's two ends. -/
theorem mask_val (l : Fin 16) {n : ℕ} (hn : n < 2 ^ 31) :
    FloatOps.sitofp (F := Ideal) FTy.f32 (BitVec.setWidth 32 (IntOp.andi
      (IntOp.cmpi CmpIPredicate.sge (BitVec.ofNat 32 n) (BitVec.ofNat 32 (loN l)))
      (IntOp.cmpi CmpIPredicate.slt (BitVec.ofNat 32 n) (BitVec.ofNat 32 (hiN l))))) = oh l n := by
  have h1 := loN_le l
  have h2 := hiN_le l
  have h : IntOp.andi (IntOp.cmpi CmpIPredicate.sge (BitVec.ofNat 32 n) (BitVec.ofNat 32 (loN l)))
      (IntOp.cmpi CmpIPredicate.slt (BitVec.ofNat 32 n) (BitVec.ofNat 32 (hiN l))) = 1#1 ↔ loN l ≤ n ∧ n < hiN l := by
    rw [andi_eq_one, sge_word hn (by omega), WordCmp.cmpi_slt_ofNat_eq_one_iff (w := 32) (by omega) (by omega)]
  rw [bit_val]
  exact if_congr h rfl rfl

/-- The word comparison that selects a level. -/
theorem sel_val (a b : BitVec 32) :
    FloatOps.sitofp (F := Ideal) FTy.f32 (BitVec.setWidth 32 (IntOp.cmpi CmpIPredicate.eq a b))
      = (if a = b then (1 : EReal) else 0) := by
  rw [bit_val]
  refine if_congr ?_ rfl rfl
  show BitVec.ofBool (a == b) = 1#1 ↔ a = b
  rw [show (a == b) = decide (a = b) from rfl, WordCmp.ofBool_decide_eq_one_iff]

/-- The four payloads read at an index. -/
theorem pay1_apply (g : ℕ) (x : Vec Ideal S1x2x131072 .f32) (lo hi : Vec Ideal S16x1 .i32)
    (old : Vec Ideal S1x2x16 .f32) (c : Fin 2) (l : Fin 16) :
    k0_pay1 (F := Ideal) (gw g) x lo hi old (ix3 0 c l) = (old (ix3 0 c l) : EReal) + ∑ j : Fin 131072,
      Scalar.select (IntOp.cmpi CmpIPredicate.slt (BitVec.ofNat 32 (g * 131072 + j.val)) 6513496#32)
        ((x (ix3 0 c j) : EReal) * FloatOps.sitofp (F := Ideal) FTy.f32 (BitVec.setWidth 32 (IntOp.andi
          (IntOp.cmpi CmpIPredicate.sge (BitVec.ofNat 32 (g * 131072 + j.val)) (lo (ix2 l 0)))
          (IntOp.cmpi CmpIPredicate.slt (BitVec.ofNat 32 (g * 131072 + j.val)) (hi (ix2 l 0)))))) (0 : EReal) := by
  simp only [← entry_word]
  pointwise [k0_pay1]

theorem pay3_apply (v : BitVec 32) (x : Vec Ideal S1x2x131072 .f32) (old : Vec Ideal S1x2x16 .f32) (c : Fin 2) (l : Fin 16) :
    k0_pay3 (F := Ideal) v (lvlTo 11 v) (Scalar.cmpi .sge v 4416344#32) x old (ix3 0 c l)
      = (old (ix3 0 c l) : EReal) + (∑ j : Fin 131072, (x (ix3 0 c j) : EReal))
          * FloatOps.sitofp (F := Ideal) FTy.f32 (BitVec.setWidth 32 (IntOp.cmpi CmpIPredicate.eq (BitVec.ofNat 32 l.val) (lvlTo 16 v))) := by
  pointwise [k0_pay3]
  rfl

theorem pay2_apply (g : ℕ) (lo hi : Vec Ideal S16x1 .i32) (ic : Vec Ideal S16x1 .f32) (s : Vec Ideal S1x2x16 .f32)
    (w : Vec Ideal S2x2 .f32) (b : Vec Ideal S2x1 .f32) (d : Fin 2) (j : Fin 131072) :
    k1_pay2 (F := Ideal) (gw g) (k1_pay3 w s) lo hi ic b (ix3 0 d j)
      = (∑ l : Fin 16, (∑ c : Fin 2, (w (ix2 d c) : EReal) * (s (ix3 0 c l) : EReal))
          * (FloatOps.sitofp (F := Ideal) FTy.f32 (BitVec.setWidth 32 (IntOp.andi
              (IntOp.cmpi CmpIPredicate.sge (BitVec.ofNat 32 (g * 131072 + j.val)) (lo (ix2 l 0)))
              (IntOp.cmpi CmpIPredicate.slt (BitVec.ofNat 32 (g * 131072 + j.val)) (hi (ix2 l 0)))))
            * (ic (ix2 l 0) : EReal))) + (b (ix2 d 0) : EReal) := by
  simp only [← entry_word]
  pointwise [k1_pay2, k1_pay3]

theorem pay0_apply (v : BitVec 32) (ic : Vec Ideal S16x1 .f32) (s : Vec Ideal S1x2x16 .f32)
    (w : Vec Ideal S2x2 .f32) (b : Vec Ideal S2x1 .f32) (d : Fin 2) (j : Fin 131072) :
    k1_pay1 (F := Ideal) v (k1_pay3 w s) ic b (ix3 0 d j)
      = (∑ l : Fin 16, (∑ c : Fin 2, (w (ix2 d c) : EReal) * (s (ix3 0 c l) : EReal))
          * (FloatOps.sitofp (F := Ideal) FTy.f32 (BitVec.setWidth 32 (IntOp.cmpi CmpIPredicate.eq (BitVec.ofNat 32 l.val) v))
            * (ic (ix2 l 0) : EReal))) + (b (ix2 d 0) : EReal) := by
  pointwise [k1_pay1, k1_pay3]

/-- What a column block's grid point adds to the sums, mixed or not: each level's entries of the block. -/
theorem step0_apply (g : Fin 50) (lo hi : Vec Ideal S16x1 .i32) (hlo : ∀ l, lo (ix2 l 0) = BitVec.ofNat 32 (loN l))
    (hhi : ∀ l, hi (ix2 l 0) = BitVec.ofNat 32 (hiN l)) (x : Vec Ideal S1x2x131072 .f32)
    (old : Vec Ideal S1x2x16 .f32) (c : Fin 2) (l : Fin 16) :
    step0 (F := Ideal) g.val lo hi x old (ix3 0 c l)
      = (old (ix3 0 c l) : EReal) + ∑ j : Fin 131072, (x (ix3 0 c j) : EReal) * oh l (g.val * 131072 + j.val) := by
  have hg := g.isLt
  unfold step0
  split
  · rw [pay1_apply]
    refine congrArg (fun y : EReal => (old (ix3 0 c l) : EReal) + y) ?_
    refine Finset.sum_congr rfl fun j _ => ?_
    have hj := j.isLt
    rw [hlo, hhi, mask_val l (by omega)]
    unfold Scalar.select
    split
    · rfl
    · rename_i h
      have h : ¬ g.val * 131072 + j.val < 6513496 := fun h' =>
        h ((WordCmp.cmpi_slt_ofNat_eq_one_iff (w := 32) (by omega) (by omega)).2 h')
      rw [oh_past l (by omega), mul_zero]
  · rename_i hx
    have hp := (crossW_cases g.val).resolve_left hx
    rw [pay3_apply, sel_val]
    refine congrArg (fun y : EReal => (old (ix3 0 c l) : EReal) + y) ?_
    have hs := plain_sel g hp l
    simp only [← hs]
    change _ * (if BitVec.ofNat 32 l.val = lvlW g.val then (1 : EReal) else 0) = _
    split
    · simp
    · simp

/-- What a column block's grid point stores, mixed or not: the level's transformed sum times the level's factor. -/
theorem step1_apply (g : Fin 50) (lo hi : Vec Ideal S16x1 .i32) (hlo : ∀ l, lo (ix2 l 0) = BitVec.ofNat 32 (loN l))
    (hhi : ∀ l, hi (ix2 l 0) = BitVec.ofNat 32 (hiN l)) (ic : Vec Ideal S16x1 .f32)
    (sums : Vec Ideal S1x2x16 .f32) (w : Vec Ideal S2x2 .f32) (b : Vec Ideal S2x1 .f32) (d : Fin 2) (j : Fin 131072) :
    step1 (F := Ideal) g.val lo hi ic sums w b (ix3 0 d j)
      = (∑ l : Fin 16, (∑ c : Fin 2, (w (ix2 d c) : EReal) * (sums (ix3 0 c l) : EReal))
          * (oh l (g.val * 131072 + j.val) * (ic (ix2 l 0) : EReal))) + (b (ix2 d 0) : EReal) := by
  have hg := g.isLt
  have hj := j.isLt
  unfold step1
  split
  · rw [pay2_apply]
    refine congrArg (fun y : EReal => y + (b (ix2 d 0) : EReal)) ?_
    refine Finset.sum_congr rfl fun l _ => ?_
    rw [hlo, hhi, mask_val l (by omega)]
  · rename_i hx
    have hp := (crossW_cases g.val).resolve_left hx
    rw [pay0_apply]
    refine congrArg (fun y : EReal => y + (b (ix2 d 0) : EReal)) ?_
    refine Finset.sum_congr rfl fun l _ => ?_
    rw [sel_val, ← plain_sel g hp l j]

end Cert.GridProof
-- ==== Proof.Dat0.lean ====
/-
  The first region: its two hundred runs of the reducing body, one column of fifty tiles per batch and channel pair.
  Between two runs of a column the output block carries the running sums.
-/
module

public import proofs.«01_k».proof.Proof.Mask

@[expose] public section

noncomputable section

namespace Cert.GridProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (V : Dev nD → Valuation τ sig (Elt F))

/-- The grid's coordinates of a point: four columns of fifty tiles. -/
theorem coords0_1 : ∀ t : Fin grid0.N, (grid0.coords t 1).val = t.val % 50 := by decide +kernel
theorem coords0_0 : ∀ t : Fin grid0.N, (grid0.coords t 0).val = t.val / 50 := by decide +kernel

/-- The tiles a point fetches. -/
def lo0 (c : Dev nD) (t : Fin cfg0.N) : Vec F S16x1 .i32 := (win0_0.blk t).view.read (Elt F) (V c main_c)
def hi0 (c : Dev nD) (t : Fin cfg0.N) : Vec F S16x1 .i32 := (win0_1.blk t).view.read (Elt F) (V c main_c_0)
def xb0 (c : Dev nD) (t : Fin cfg0.N) : (win0_2.xblock (grid0.coords t)).Idx → Elt F .f32 :=
  (win0_2.blk t).view.read (Elt F) (V c main_v0)
def x0 (c : Dev nD) (t : Fin cfg0.N) : Vec F S1x2x131072 .f32 :=
  win0_2.fill (grid0.coords t) (fun _ => Scalar.ofBits .f32 0#32) (xb0 V c t)

/-- One run at point `n`, and the running sums after it. -/
def run0 (c : Dev nD) (n : ℕ) (old : Vec F S1x2x16 .f32) : Vec F S1x2x16 .f32 :=
  if h : n < cfg0.N then step0 (n % 50) (lo0 V c ⟨n, h⟩) (hi0 V c ⟨n, h⟩) (x0 V c ⟨n, h⟩) old else old

def acc0 (c : Dev nD) : ℕ → Vec F S1x2x16 .f32
  | 0 => run0 V c 0 k0_pay2
  | n + 1 => run0 V c (n + 1) (if (n + 1) % 50 = 0 then k0_pay2 else acc0 c n)

/-- The region's proof data. -/
def dat0 (c : Dev nD) : Dat τ (Elt F) Unit ℕ (UR sig nD τ) ℕ cfg0 c where
  A w := V c (Pipeline.arrRef spec0 w)
  after w t := match w with
    | ⟨0, _⟩ => lo0 V c t
    | ⟨1, _⟩ => hi0 V c t
    | ⟨2, _⟩ => x0 V c t
    | ⟨3, _⟩ => acc0 V c t.val
  Φ _ := Pipeline.scopedRest spec0 c
  q _ := fullShare
  owed _ := 0

theorem before0_0 (c : Dev nD) (t : Fin cfg0.N) (d) : (dat0 V c).before (0 : Fin 4) t d = lo0 V c t :=
  Pipeline.Dat.before_in_eq_fetched (dat0 V c) 0 rfl (fun _ => rfl) (fun _ _ _ => rfl) (fun _ => rfl) t d
theorem before0_1 (c : Dev nD) (t : Fin cfg0.N) (d) : (dat0 V c).before (1 : Fin 4) t d = hi0 V c t :=
  Pipeline.Dat.before_in_eq_fetched (dat0 V c) 1 rfl (fun _ => rfl) (fun _ _ _ => rfl) (fun _ => rfl) t d
theorem before0_2 (c : Dev nD) (t : Fin cfg0.N) (d) :
    (dat0 V c).before (2 : Fin 4) t d = win0_2.fill (grid0.coords t) d (xb0 V c t) := by
  unfold Dat.before; rw [if_pos (fetch0_2 t)]; rfl

theorem not_idle0 (i : grid0.Coords) : idle0 3 i = false := by
  rcases crossW_cases (i 1).val with hx | hx
  · simp [idle0, (cond3_iff i).2 hx]
  · simp [idle0, (cond2_iff i).2 hx]

theorem before0_3 (c : Dev nD) (t : Fin cfg0.N) (ht : t.val % 50 ≠ 0) (d) :
    (dat0 V c).before (3 : Fin 4) t d = acc0 V c (t.val - 1) := by
  rw [Pipeline.Dat.before_of_pos (dat0 V c) 3 t (by omega) rfl d]
  rw [if_neg (fun h => by have := (flush0_3 _).1 h; simp only at this; omega)]
  unfold Dat.left
  rw [show cfg0.idle 3 = idle0 3 from rfl, not_idle0]
  rfl

/-- The running sums at a point, from the ones before. -/
theorem acc0_eq (c : Dev nD) (t : Fin cfg0.N) :
    acc0 V c t.val = step0 (t.val % 50) (lo0 V c t) (hi0 V c t) (x0 V c t)
      (if t.val % 50 = 0 then k0_pay2 else acc0 V c (t.val - 1)) := by
  obtain ⟨n, hn⟩ := t
  cases n with
  | zero => simp only [acc0, run0, dif_pos hn]; rfl
  | succ n => simp only [acc0, run0, dif_pos hn, Nat.add_sub_cancel]

/-- Which entries of a tile a transfer moves. -/
theorem xsize0_0 : ∀ t : Fin grid0.N, win0_2.xsize (grid0.coords t) (0 : Fin 3) = 1 := by decide +kernel
theorem xsize0_1 : ∀ t : Fin grid0.N, win0_2.xsize (grid0.coords t) (1 : Fin 3) = 2 := by decide +kernel
theorem xsize0_2 : ∀ t : Fin grid0.N, win0_2.xsize (grid0.coords t) (2 : Fin 3) = min 131072 (6513496 - t.val % 50 * 131072) := by
  decide +kernel

theorem moved0 (t : Fin cfg0.N) (j : S1x2x131072.Idx) (h : t.val % 50 * 131072 + (j 2).val < 6513496) :
    win0_2.moved (grid0.coords t) j = true := by
  rw [win0_2.moved_iff]
  have h0 : (j 0).val < 1 := (j 0).isLt
  have h1 : (j 1).val < 2 := (j 1).isLt
  have h2 : (j 2).val < 131072 := (j 2).isLt
  intro a
  match a with
  | ⟨0, _⟩ => exact (xsize0_0 t).symm ▸ h0
  | ⟨1, _⟩ => exact (xsize0_1 t).symm ▸ h1
  | ⟨2, _⟩ => exact (xsize0_2 t).symm ▸ (lt_min h2 (by omega) : (j 2).val < min 131072 (6513496 - t.val % 50 * 131072))

/-- What the body makes of the fetched tile does not depend on what the fetch left past the array's end. -/
theorem step0_fill (c : Dev nD) (t : Fin cfg0.N) (d : Vec F S1x2x131072 .f32) (lo hi : Vec F S16x1 .i32)
    (old : Vec F S1x2x16 .f32) :
    step0 (t.val % 50) lo hi (win0_2.fill (grid0.coords t) d (xb0 V c t)) old = step0 (t.val % 50) lo hi (x0 V c t) old := by
  refine step0_congr ⟨t.val % 50, Nat.mod_lt _ (by decide)⟩ lo hi _ _ old fun j hj => ?_
  unfold x0 Window.fill
  rw [dif_pos (moved0 t j hj), dif_pos (moved0 t j hj)]

/-- The region's body obligation. -/
theorem body_obligation0 (c : Dev nD) : BodyObligationLoose (dat0 V c) (defs₀ (F := F)) 𝒱₀ () Set.univ := fun t => by
  rw [bigSep_W0, bigSep_W0]
  simp only [show cfg0.idle 3 = idle0 3 from rfl, not_idle0]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩⟩
  rw [before0_0 V c t d0, before0_1 V c t d1, before0_2 V c t d2]
  iapply (body0 (F := F) c Set.univ (grid0.coords t) ((cfg0.win 0).stage (cfg0.slots t 0)) (hstage0_0 ((cfg0.slots t 0).cast nbuf0_0))
    ((cfg0.win 1).stage (cfg0.slots t 1)) (hstage0_1 ((cfg0.slots t 1).cast nbuf0_1))
    ((cfg0.win 2).stage (cfg0.slots t 2)) (hstage0_2 ((cfg0.slots t 2).cast nbuf0_2))
    ((cfg0.win 3).stage (cfg0.slots t 3)) (hstage0_3 ((cfg0.slots t 3).cast nbuf0_3))
    (lo0 V c t) (hi0 V c t) (win0_2.fill (grid0.coords t) d2 (xb0 V c t)) ((dat0 V c).before (3 : Fin 4) t d3) _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  isplitl [H0]; · iexact H0
  isplitl [H1]; · iexact H1
  isplitl [H2]
  · iexists d2
    have hx : win0_2.cut (grid0.coords t) (x0 V c t) = xb0 V c t := win0_2.cut_fill _ _ _
    change _ ⊢ owns (c : Thread nD τ) ((cfg0.win 2).stage (cfg0.slots t 2)) fullShare
      (win0_2.fill (grid0.coords t) d2 (win0_2.cut (grid0.coords t) (x0 V c t)))
    rw [hx]
  · have hr : step0 (grid0.coords t 1).val (lo0 V c t) (hi0 V c t) (win0_2.fill (grid0.coords t) d2 (xb0 V c t))
        (if (grid0.coords t 1).val = 0 then k0_pay2 else (dat0 V c).before (3 : Fin 4) t d3) = acc0 V c t.val := by
      rw [coords0_1, step0_fill, acc0_eq]
      by_cases ht : t.val % 50 = 0
      · rw [if_pos ht, if_pos ht]
      · rw [if_neg ht, if_neg ht, before0_3 V c t ht]
    rw [hr, not_idle0]
    iexact H3

end Cert.GridProof
-- ==== Proof.Sums0.lean ====
module

public import Idealize.ShloMosaic.Lib.Pipeline.ValueKit
public import proofs.«01_k».proof.Proof.Levels
public import proofs.«01_k».proof.Proof.Dat0

/-! What the first region leaves: each level's sum, per batch row and channel. -/

@[expose] public section

noncomputable section

namespace Cert.GridProof

open Cert.KernelIdeal Cert.KernelIdeal.Gen
open Idealize.ShloMosaic Idealize.ShloMosaic.TcCoe Idealize.SL.Sem
open Idealize.ShloMosaic.Pipeline (Dat Cfg Window)

variable (V : Dev nD → Valuation τ sig (Elt Ideal))

/-- Which block of each array a point reads or writes. -/
theorem index0_0 : ∀ t : Fin grid0.N, win0_0.index t = ![0, 0] := by decide +kernel
theorem index0_1 : ∀ t : Fin grid0.N, win0_1.index t = ![0, 0] := by decide +kernel
theorem index0_2 : ∀ t : Fin grid0.N, win0_2.index t = ![t.val / 50, 0, t.val % 50] := by decide +kernel
theorem index0_3 : ∀ t : Fin grid0.N, win0_3.index t = ![t.val / 50, 0, 0] := by decide +kernel

theorem lo0_apply (c : Dev nD) (t : Fin cfg0.N) (l : Fin 16) :
    lo0 V c t (ix2 l 0) = V c main_c (ix2 l 0) := by
  unfold lo0
  blk_ext! [index0_0 t]

theorem hi0_apply (c : Dev nD) (t : Fin cfg0.N) (l : Fin 16) :
    hi0 V c t (ix2 l 0) = V c main_c_0 (ix2 l 0) := by
  unfold hi0
  blk_ext! [index0_1 t]

theorem x0_apply (c : Dev nD) (t : Fin cfg0.N) (ch : Fin 2) (j : Fin 131072) (h : t.val % 50 * 131072 + j.val < 6513496) :
    x0 V c t (ix3 0 ch j) = V c main_v0 (ix3 ⟨t.val / 50, by have : t.val < 200 := t.isLt; omega⟩ ch ⟨t.val % 50 * 131072 + j.val, h⟩) := by
  unfold x0 Window.fill
  rw [dif_pos (moved0 t _ h)]
  unfold xb0
  blk_ext! [index0_2 t]

/-- One batch row's channel as a function of the entry, zero past the array's end. -/
def xs (c : Dev nD) (bb : Fin 4) (ch : Fin 2) (n : ℕ) : EReal :=
  if h : n < 6513496 then V c main_v0 (ix3 bb ch ⟨n, h⟩) else 0

/-- A level's sum. -/
def lsum (c : Dev nD) (bb : Fin 4) (ch : Fin 2) (l : Fin 16) : EReal :=
  ∑ n ∈ Finset.range 6513496, xs V c bb ch n * oh l n

/-- What one block of a column adds. -/
def part (c : Dev nD) (bb : Fin 4) (ch : Fin 2) (l : Fin 16) (g : ℕ) : EReal :=
  ∑ j ∈ Finset.range 131072, xs V c bb ch (g * 131072 + j) * oh l (g * 131072 + j)

/-- The ends of the levels, as the two tables hold them. -/
def Tables (c : Dev nD) : Prop :=
  (∀ l : Fin 16, V c main_c (ix2 l 0) = BitVec.ofNat 32 (loN l)) ∧ (∀ l : Fin 16, V c main_c_0 (ix2 l 0) = BitVec.ofNat 32 (hiN l))

theorem point_lt (bb : Fin 4) (g : Fin 50) : bb.val * 50 + g.val < 200 := by omega

/-- One point's addition. -/
theorem step_part (c : Dev nD) (hV : Tables V c) (bb : Fin 4) (g : Fin 50) (old : Vec Ideal S1x2x16 .f32) (ch : Fin 2) (l : Fin 16) :
    step0 g.val (lo0 V c ⟨bb.val * 50 + g.val, point_lt bb g⟩) (hi0 V c ⟨bb.val * 50 + g.val, point_lt bb g⟩)
      (x0 V c ⟨bb.val * 50 + g.val, point_lt bb g⟩) old (ix3 0 ch l) = (old (ix3 0 ch l) : EReal) + part V c bb ch l g.val := by
  have hg := g.isLt
  rw [step0_apply g _ _ (fun l => by rw [lo0_apply, hV.1]) (fun l => by rw [hi0_apply, hV.2])]
  refine congrArg (fun y : EReal => (old (ix3 0 ch l) : EReal) + y) ?_
  unfold part
  rw [Finset.sum_range]
  refine Finset.sum_congr rfl fun j _ => ?_
  have hm : (bb.val * 50 + g.val) % 50 = g.val := by omega
  have hd : (bb.val * 50 + g.val) / 50 = bb.val := by omega
  by_cases h : g.val * 131072 + j.val < 6513496
  · rw [x0_apply V c _ ch j (by rw [hm]; exact h)]
    unfold xs
    rw [dif_pos h]
    simp only [hm, hd]
  · rw [oh_past l (by omega), mul_zero, mul_zero]

theorem zero_apply (i : S1x2x16.Idx) : k0_pay2 (F := Ideal) i = (0 : EReal) := by
  pointwise [k0_pay2]

/-- The running sums after a column's `g`-th block. -/
theorem acc_apply (c : Dev nD) (hV : Tables V c) (bb : Fin 4) (ch : Fin 2) (l : Fin 16) : ∀ (g : ℕ) (hg : g < 50),
    acc0 V c (bb.val * 50 + g) (ix3 0 ch l) = ∑ k ∈ Finset.range (g + 1), part V c bb ch l k
  | 0, hg => by
    have h := acc0_eq V c ⟨bb.val * 50 + 0, point_lt bb ⟨0, hg⟩⟩
    have hm : (bb.val * 50 + 0) % 50 = 0 := by omega
    rw [if_pos hm] at h
    simp only [hm] at h
    rw [h, step_part V c hV bb ⟨0, hg⟩, zero_apply]
    simp
  | g + 1, hg => by
    have h := acc0_eq V c ⟨bb.val * 50 + (g + 1), point_lt bb ⟨g + 1, hg⟩⟩
    have hm : (bb.val * 50 + (g + 1)) % 50 = g + 1 := by omega
    rw [if_neg (by simp only [hm]; omega)] at h
    simp only [hm] at h
    rw [h, step_part V c hV bb ⟨g + 1, hg⟩, Finset.sum_range_succ _ (g + 1)]
    exact congrArg (fun y : EReal => y + part V c bb ch l (g + 1)) (acc_apply c hV bb ch l g (by omega))

/-- A column's blocks together are the whole array. -/
theorem parts_eq (c : Dev nD) (bb : Fin 4) (ch : Fin 2) (l : Fin 16) :
    ∑ k ∈ Finset.range 50, part V c bb ch l k = lsum V c bb ch l := by
  unfold part lsum
  rw [Finset.sum_range_range_mul_add 50 131072 (fun n => xs V c bb ch n * oh l n)]
  refine (Finset.sum_subset (Finset.range_subset_range.2 (by norm_num)) fun n _ hn => ?_).symm
  rw [oh_past l (by simpa using hn), mul_zero]

/-- The sums' array after the first region. -/
theorem left0_eq (c : Dev nD) (hV : Tables V c) :
    (dat0 V c).arrAt 3 cfg0.N = (fun i : S4x2x16.Idx => lsum V c (i 0) (i 1) (i 2)) := by
  refine (dat0 V c).arrAt_eq_of_covers 3 _ (by decide +kernel) fun t hf y => ?_
  have ht : t.val < 200 := t.isLt
  have hm := (flush0_3 t).1 hf
  obtain ⟨n, hn⟩ : ∃ n : Fin 4, t.val = n.val * 50 + 49 := ⟨⟨t.val / 50, by omega⟩, by show t.val = t.val / 50 * 50 + 49; omega⟩
  have hd : t.val / 50 = n.val := by omega
  blk_simp
  idx_vars y
  have e : (win0_3.blk t).view.emb (ix3 y0 y1 y2) = ix3 n y1 y2 := by blk_ext! [index0_3 t, hd]
  have h0 : (ix3 y0 y1 y2 : S1x2x16.Idx) = ix3 0 y1 y2 := by rw [Subsingleton.elim y0 0]
  have hr : acc0 V c t.val (ix3 0 y1 y2) = lsum V c n y1 y2 := by rw [hn, acc_apply V c hV n y1 y2 49 (by omega), parts_eq]
  exact (congrArg (acc0 V c t.val) h0).trans (hr.trans (congrArg (fun i : S4x2x16.Idx => lsum V c (i 0) (i 1) (i 2)) e).symm)

end Cert.GridProof
-- ==== Proof.Dat1.lean ====
/-
  The second region: its two hundred runs of the broadcasting body, each storing one tile of the result, the last tile of
  a column cut at the array's end.
-/
module

public import proofs.«01_k».proof.Proof.Dat0

@[expose] public section

noncomputable section

namespace Cert.GridProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (V : Dev nD → Valuation τ sig (Elt F))

theorem coords1_1 : ∀ t : Fin grid1.N, (grid1.coords t 1).val = t.val % 50 := by decide +kernel
theorem coords1_0 : ∀ t : Fin grid1.N, (grid1.coords t 0).val = t.val / 50 := by decide +kernel

/-- The tiles a point fetches. -/
def lo1 (c : Dev nD) (t : Fin cfg1.N) : Vec F S16x1 .i32 := (win1_0.blk t).view.read (Elt F) (V c main_c)
def hi1 (c : Dev nD) (t : Fin cfg1.N) : Vec F S16x1 .i32 := (win1_1.blk t).view.read (Elt F) (V c main_c_0)
def ic1 (c : Dev nD) (t : Fin cfg1.N) : Vec F S16x1 .f32 := (win1_2.blk t).view.read (Elt F) (V c main_v2)
def sums1 (c : Dev nD) (t : Fin cfg1.N) : Vec F S1x2x16 .f32 := (win1_3.blk t).view.read (Elt F) (V c main_v3)
def w1 (c : Dev nD) (t : Fin cfg1.N) : Vec F S2x2 .f32 := (win1_4.blk t).view.read (Elt F) (V c main_arg3)
def b1 (c : Dev nD) (t : Fin cfg1.N) : Vec F S2x1 .f32 := (win1_5.blk t).view.read (Elt F) (V c main_v4)

/-- The tile a point stores. -/
def out1 (c : Dev nD) (t : Fin cfg1.N) : Vec F S1x2x131072 .f32 :=
  step1 (t.val % 50) (lo1 V c t) (hi1 V c t) (ic1 V c t) (sums1 V c t) (w1 V c t) (b1 V c t)

/-- The region's proof data. -/
def dat1 (c : Dev nD) : Dat τ (Elt F) Unit ℕ (UR sig nD τ) ℕ cfg1 c where
  A w := V c (Pipeline.arrRef spec1 w)
  after w t := match w with
    | ⟨0, _⟩ => lo1 V c t
    | ⟨1, _⟩ => hi1 V c t
    | ⟨2, _⟩ => ic1 V c t
    | ⟨3, _⟩ => sums1 V c t
    | ⟨4, _⟩ => w1 V c t
    | ⟨5, _⟩ => b1 V c t
    | ⟨6, _⟩ => out1 V c t
  Φ _ := Pipeline.scopedRest spec1 c
  q _ := fullShare
  owed _ := 0

theorem before1_0 (c : Dev nD) (t : Fin cfg1.N) (d) : (dat1 V c).before (0 : Fin 7) t d = lo1 V c t :=
  Pipeline.Dat.before_in_eq_fetched (dat1 V c) 0 rfl (fun _ => rfl) (fun _ _ _ => rfl) (fun _ => rfl) t d
theorem before1_1 (c : Dev nD) (t : Fin cfg1.N) (d) : (dat1 V c).before (1 : Fin 7) t d = hi1 V c t :=
  Pipeline.Dat.before_in_eq_fetched (dat1 V c) 1 rfl (fun _ => rfl) (fun _ _ _ => rfl) (fun _ => rfl) t d
theorem before1_2 (c : Dev nD) (t : Fin cfg1.N) (d) : (dat1 V c).before (2 : Fin 7) t d = ic1 V c t :=
  Pipeline.Dat.before_in_eq_fetched (dat1 V c) 2 rfl (fun _ => rfl) (fun _ _ _ => rfl) (fun _ => rfl) t d
theorem before1_3 (c : Dev nD) (t : Fin cfg1.N) (d) : (dat1 V c).before (3 : Fin 7) t d = sums1 V c t :=
  Pipeline.Dat.before_in_eq_fetched (dat1 V c) 3 rfl (fun _ => rfl) (fun _ _ _ => rfl) (fun _ => rfl) t d
theorem before1_4 (c : Dev nD) (t : Fin cfg1.N) (d) : (dat1 V c).before (4 : Fin 7) t d = w1 V c t :=
  Pipeline.Dat.before_in_eq_fetched (dat1 V c) 4 rfl (fun _ => rfl) (fun _ _ _ => rfl) (fun _ => rfl) t d
theorem before1_5 (c : Dev nD) (t : Fin cfg1.N) (d) : (dat1 V c).before (5 : Fin 7) t d = b1 V c t :=
  Pipeline.Dat.before_in_eq_fetched (dat1 V c) 5 rfl (fun _ => rfl) (fun _ _ _ => rfl) (fun _ => rfl) t d

theorem not_idle1 (i : grid1.Coords) : idle1 6 i = false := by
  rcases crossW_cases (i 1).val with hx | hx
  · simp [idle1, (cond5_iff i).2 hx]
  · simp [idle1, (cond4_iff i).2 hx]

/-- The region's body obligation. -/
theorem body_obligation1 (c : Dev nD) : BodyObligationLoose (dat1 V c) (defs₀ (F := F)) 𝒱₀ () Set.univ := fun t => by
  rw [bigSep_W1, bigSep_W1]
  simp only [show cfg1.idle 6 = idle1 6 from rfl, not_idle1]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before1_0 V c t d0, before1_1 V c t d1, before1_2 V c t d2, before1_3 V c t d3, before1_4 V c t d4, before1_5 V c t d5]
  iapply (body1 (F := F) c Set.univ (grid1.coords t)
    ((cfg1.win 0).stage (cfg1.slots t 0)) (hstage1_0 ((cfg1.slots t 0).cast nbuf1_0))
    ((cfg1.win 1).stage (cfg1.slots t 1)) (hstage1_1 ((cfg1.slots t 1).cast nbuf1_1))
    ((cfg1.win 2).stage (cfg1.slots t 2)) (hstage1_2 ((cfg1.slots t 2).cast nbuf1_2))
    ((cfg1.win 3).stage (cfg1.slots t 3)) (hstage1_3 ((cfg1.slots t 3).cast nbuf1_3))
    ((cfg1.win 4).stage (cfg1.slots t 4)) (hstage1_4 ((cfg1.slots t 4).cast nbuf1_4))
    ((cfg1.win 5).stage (cfg1.slots t 5)) (hstage1_5 ((cfg1.slots t 5).cast nbuf1_5))
    ((cfg1.win 6).stage (cfg1.slots t 6)) (hstage1_6 ((cfg1.slots t 6).cast nbuf1_6))
    (lo1 V c t) (hi1 V c t) (ic1 V c t) (sums1 V c t) (w1 V c t) (b1 V c t) ((dat1 V c).before (6 : Fin 7) t d6) _)
  isplitl [H0 H1 H2 H3 H4 H5 H6]
  · isplitl [H0]
    · iexact H0
    isplitl [H1]
    · iexact H1
    isplitl [H2]
    · iexact H2
    isplitl [H3]
    · iexact H3
    isplitl [H4]
    · iexact H4
    isplitl [H5]
    · iexact H5
    · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [not_idle1]
  iexists (out1 V c t)
  change _ ⊢ owns (c : Thread nD τ) ((cfg1.win 6).stage (cfg1.slots t 6)) fullShare
    (win1_6.fill (grid1.coords t) (out1 V c t) (win1_6.cut (grid1.coords t) (out1 V c t)))
  rw [win1_6.fill_cut, show out1 V c t = step1 (grid1.coords t 1).val (lo1 V c t) (hi1 V c t) (ic1 V c t) (sums1 V c t) (w1 V c t)
    (b1 V c t) from by rw [coords1_1]; rfl]

end Cert.GridProof
-- ==== Proof.Out1.lean ====
module

public import proofs.«01_k».proof.Proof.Sums0
public import proofs.«01_k».proof.Proof.Dat1

/-! What the second region leaves: at each entry its level's transformed sum, times the level's factor, plus the bias. -/

@[expose] public section

noncomputable section

namespace Cert.GridProof

open Cert.KernelIdeal Cert.KernelIdeal.Gen
open Idealize.ShloMosaic Idealize.ShloMosaic.TcCoe Idealize.SL.Sem
open Idealize.ShloMosaic.Pipeline (Dat Cfg Window)

variable (V : Dev nD → Valuation τ sig (Elt Ideal))

/-- Which block of each array a point reads or writes. -/
theorem index1_0 : ∀ t : Fin grid1.N, win1_0.index t = ![0, 0] := by decide +kernel
theorem index1_1 : ∀ t : Fin grid1.N, win1_1.index t = ![0, 0] := by decide +kernel
theorem index1_2 : ∀ t : Fin grid1.N, win1_2.index t = ![0, 0] := by decide +kernel
theorem index1_3 : ∀ t : Fin grid1.N, win1_3.index t = ![t.val / 50, 0, 0] := by decide +kernel
theorem index1_4 : ∀ t : Fin grid1.N, win1_4.index t = ![0, 0] := by decide +kernel
theorem index1_5 : ∀ t : Fin grid1.N, win1_5.index t = ![0, 0] := by decide +kernel
theorem index1_6 : ∀ t : Fin grid1.N, win1_6.index t = ![t.val / 50, 0, t.val % 50] := by decide +kernel

theorem lo1_apply (c : Dev nD) (t : Fin cfg1.N) (l : Fin 16) : lo1 V c t (ix2 l 0) = V c main_c (ix2 l 0) := by
  unfold lo1
  blk_ext! [index1_0 t]

theorem hi1_apply (c : Dev nD) (t : Fin cfg1.N) (l : Fin 16) : hi1 V c t (ix2 l 0) = V c main_c_0 (ix2 l 0) := by
  unfold hi1
  blk_ext! [index1_1 t]

theorem ic1_apply (c : Dev nD) (t : Fin cfg1.N) (l : Fin 16) : ic1 V c t (ix2 l 0) = V c main_v2 (ix2 l 0) := by
  unfold ic1
  blk_ext! [index1_2 t]

theorem sums1_apply (c : Dev nD) (t : Fin cfg1.N) (bb : Fin 4) (hb : t.val / 50 = bb.val) (ch : Fin 2) (l : Fin 16) :
    sums1 V c t (ix3 0 ch l) = V c main_v3 (ix3 bb ch l) := by
  unfold sums1
  blk_ext! [index1_3 t, hb]

theorem w1_apply (c : Dev nD) (t : Fin cfg1.N) (d ch : Fin 2) : w1 V c t (ix2 d ch) = V c main_arg3 (ix2 d ch) := by
  unfold w1
  blk_ext! [index1_4 t]

theorem b1_apply (c : Dev nD) (t : Fin cfg1.N) (d : Fin 2) : b1 V c t (ix2 d 0) = V c main_v4 (ix2 d 0) := by
  unfold b1
  blk_ext! [index1_5 t]

/-- One entry of the result, in a batch row and an output channel, from the weights, the sums, the factors and the bias. -/
def entry (W : Fin 2 → Fin 2 → EReal) (S : Fin 4 → Fin 2 → Fin 16 → EReal) (r : Fin 16 → EReal) (b : Fin 2 → EReal)
    (bb : Fin 4) (d : Fin 2) (n : ℕ) : EReal :=
  (∑ l : Fin 16, (∑ ch : Fin 2, W d ch * S bb ch l) * (oh l n * r l)) + b d

/-- The same from the buffers of a core. -/
def entryOf (c : Dev nD) (bb : Fin 4) (d : Fin 2) (n : ℕ) : EReal :=
  entry (fun d ch => V c main_arg3 (ix2 d ch)) (fun bb ch l => V c main_v3 (ix3 bb ch l)) (fun l => V c main_v2 (ix2 l 0))
    (fun d => V c main_v4 (ix2 d 0)) bb d n

/-- What a point stores. -/
theorem out1_apply (c : Dev nD) (hV : Tables V c) (t : Fin cfg1.N) (bb : Fin 4) (hb : t.val / 50 = bb.val) (d : Fin 2)
    (j : Fin 131072) : out1 V c t (ix3 0 d j) = entryOf V c bb d (t.val % 50 * 131072 + j.val) := by
  unfold out1
  rw [step1_apply ⟨t.val % 50, Nat.mod_lt _ (by decide)⟩ _ _ (fun l => by rw [lo1_apply, hV.1]) (fun l => by rw [hi1_apply, hV.2])]
  unfold entryOf entry
  rw [b1_apply]
  refine congrArg (fun y : EReal => y + (V c main_v4 (ix2 d 0) : EReal)) ?_
  refine Finset.sum_congr rfl fun l _ => ?_
  rw [ic1_apply]
  simp only [w1_apply, sums1_apply V c t bb hb]

/-- The result's array after the second region. -/
theorem left1_eq (c : Dev nD) (hV : Tables V c) :
    (dat1 V c).arrAt 6 cfg1.N = (fun i : S4x2x6513496.Idx =>
       entryOf V c (i 0) (i 1) (i 2).val) := by
  refine (dat1 V c).arrAt_eq_of_covers 6 _ (by decide +kernel) fun t hf y => ?_
  have ht : t.val < 200 := t.isLt
  obtain ⟨bb, hb⟩ : ∃ bb : Fin 4, t.val / 50 = bb.val := ⟨⟨t.val / 50, by omega⟩, rfl⟩
  have e0 : ((win1_6.blk t).view.emb y 0 : Fin 4) = bb := Fin.ext (by
    have h0 : (y 0).val < 1 := ((cfg1.win 6).xinj (cfg1.grid.coords t) y 0).isLt
    blk_simp [index1_6 t, hb]
    omega)
  have e1 : ((win1_6.blk t).view.emb y 1 : Fin 2) = (cfg1.win 6).xinj (cfg1.grid.coords t) y 1 := Fin.ext (by
    blk_simp [index1_6 t])
  have e2 : ((win1_6.blk t).view.emb y 2 : Fin 6513496).val = t.val % 50 * 131072 + ((cfg1.win 6).xinj (cfg1.grid.coords t) y 2).val := by
    blk_simp [index1_6 t]
  have hx : (cfg1.win 6).xinj (cfg1.grid.coords t) y = (ix3 0 ((cfg1.win 6).xinj (cfg1.grid.coords t) y 1)
      ((cfg1.win 6).xinj (cfg1.grid.coords t) y 2) : S1x2x131072.Idx) := by
    generalize (cfg1.win 6).xinj (cfg1.grid.coords t) y = z
    funext a
    match a with
    | ⟨0, _⟩ => exact Subsingleton.elim (α := Fin 1) _ _
    | ⟨1, _⟩ => rfl
    | ⟨2, _⟩ => rfl
  show out1 V c t ((cfg1.win 6).xinj (cfg1.grid.coords t) y) = entryOf V c
    ((win1_6.blk t).view.emb y 0 : Fin 4) ((win1_6.blk t).view.emb y 1 : Fin 2) ((win1_6.blk t).view.emb y 2 : Fin 6513496).val
  rw [e0, e1, e2, hx]
  exact out1_apply V c hV t bb hb _ _

theorem left1_apply (c : Dev nD) (hV : Tables V c) (bb : Fin 4) (d : Fin 2) (n : Fin 6513496) :
    (dat1 V c).arrAt 6 cfg1.N (ix3 bb d n) = entryOf V c bb d n.val :=
  congrFun (left1_eq V c hV) (ix3 bb d n)

end Cert.GridProof
-- ==== Proof.Regs.lean ====
/-
  The run: the two regions between the three host stretches, from any memory. It ends with every argument as launched, the
  result at the contents followed through the five items, and every semaphore counter at zero.
-/
module

public import proofs.«01_k».proof.Proof.Dat1

@[expose] public section

noncomputable section

namespace Cert.GridProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose Seg HostSeg RegionSeg)

variable {F : FTy → Type} [FloatOps F]

local notation "𝕄" => MT nD τ sig Unit (Elt F) ℕ (UR sig nD τ) ℕ

variable (m : (ℓ : Loc nD τ sig) → Buf (Elt F) ℓ)

/-- What the first region leaves in its result. -/
def left0 (c : Dev nD) : Buf (Elt F) ((c : Thread nD τ).loc main_v3) := (dat0 (V1 m) c).arrAt 3 cfg0.N

/-- The contents a region leaves, the second one's not yet said. -/
def outsA : Outs (F := F) := fun _ => Function.update (fun r c => m ((c : Thread nD τ).loc r)) main_v3 (left0 m)

/-- What the second region leaves in its result. -/
def left1 (c : Dev nD) : Buf (Elt F) ((c : Thread nD τ).loc main_v5) := (dat1 (V3 m (outsA m)) c).arrAt 6 cfg1.N

/-- The contents the regions leave. -/
def outs : Outs (F := F) := fun J => Function.update (outsA m J) main_v5 (left1 m)

theorem outs_v5 (J : ℕ) : outs m J main_v5 = left1 m := Function.update_self ..
theorem outs_v3 (J : ℕ) : outs m J main_v3 = left0 m := by
  unfold outs
  rw [Function.update_of_ne (by decide)]
  exact Function.update_self ..
theorem outsA_v3 (J : ℕ) : outsA m J main_v3 = left0 m := Function.update_self ..

/-- The buffers at the second region's entry do not depend on what it leaves. -/
theorem V3_outs : V3 m (outs m) = V3 m (outsA m) := by
  funext c
  unfold V3 V2
  rw [outs_v3, outsA_v3]

/-- The two regions' proof data. -/
def pdats : (p : Fin 2) → (c : Dev nD) → Dat τ (Elt F) Unit ℕ (UR sig nD τ) ℕ (cfgs p) c
  | ⟨0, _⟩ => fun c => dat0 (V1 m) c
  | ⟨1, _⟩ => fun c => dat1 (V3 m (outsA m)) c
  | ⟨_ + 2, h⟩ => absurd h (Nat.not_lt.2 (Nat.le_add_left _ _))

/-- The levels: nothing is owed, so one level serves. -/
def lvls (g : GSem nD τ sig) : Finset Unit := if g.1.2 = .tc then {()} else ∅
def lv (_ : GSem nD τ sig) (_ : Unit) : ℕ := 0

theorem cut (p : Fin 2) : Pipeline.LevelCut (nD := nD) (τ := τ) (pcfgs (F := F)) adm () lvls lv p 0 fun _ => 0 where
  hι _ _ _ := by simp [lvls]
  hιb _ _ _ := le_refl _
  hD _ _ _ h := absurd h (Nat.lt_irrefl 0)

/-- What a core holds beside the buffers between two items: it owes nothing. -/
def E (_ : Fin 3) (c : Dev nD) : sProp 𝕄 := iprop(∃ W, owes (c : Thread nD τ) (0 : CellTallies nD τ sig Unit) W)

theorem inOf0 (c : Dev nD) : iprop(Pipeline.scopedRest spec0 c ∗ BI.emp) ⊢ (Pipeline.scopedRest spec0 c : sProp 𝕄) := by
  iintro ⟨H, -⟩; iexact H
theorem inOf1 (c : Dev nD) : iprop(Pipeline.scopedRest spec1 c ∗ BI.emp) ⊢ (Pipeline.scopedRest spec1 c : sProp 𝕄) := by
  iintro ⟨H, -⟩; iexact H
theorem outOf0 (c : Dev nD) : (Pipeline.scopedRest spec0 c : sProp 𝕄) ⊢ iprop(Pipeline.scopedRest spec0 c ∗ BI.emp) := by
  iintro H
  isplitl [H]; · iexact H
  iempintro
theorem outOf1 (c : Dev nD) : (Pipeline.scopedRest spec1 c : sProp 𝕄) ⊢ iprop(Pipeline.scopedRest spec1 c ∗ BI.emp) := by
  iintro H
  isplitl [H]; · iexact H
  iempintro

/-- The first region's record. -/
def reg0 : RegionSeg (pcfgs (F := F)) adm (pdats m) () defs₀ 𝒱₀ lvls lv 0 :=
  RegionSeg.ofHeldIn (pcfgs (F := F)) adm (pdats m) () defs₀ 𝒱₀ lvls lv 0 0 (Pipeline.ucRefs τ sig) (fun _ => BI.emp) (fun _ => BI.emp)
    launch0.toP rfl (body_obligation0 (V1 m)) (fun _ _ => rfl) (fun _ => rfl) (fun c w => (dat0 (V1 m) c).share_full (fun _ => rfl) w)
    (fun c => inOf0 c)
    (fun c => outOf0 c)
    (fun _ => 0) (cut 0) (fun _ => BI.emp) (V1 m) (fun _ _ => rfl)

/-- The second region's record. -/
def reg1 : RegionSeg (pcfgs (F := F)) adm (pdats m) () defs₀ 𝒱₀ lvls lv 1 :=
  RegionSeg.ofHeldIn (pcfgs (F := F)) adm (pdats m) () defs₀ 𝒱₀ lvls lv 1 0 (Pipeline.ucRefs τ sig) (fun _ => BI.emp) (fun _ => BI.emp)
    launch1.toP rfl (body_obligation1 (V3 m (outsA m))) (fun _ _ => rfl) (fun _ => rfl)
    (fun c w => (dat1 (V3 m (outsA m)) c).share_full (fun _ => rfl) w)
    (fun c => inOf1 c)
    (fun c => outOf1 c)
    (fun _ => 0) (cut 1) (fun _ => BI.emp) (V3 m (outsA m)) (fun _ _ => rfl)

/-- An unscoped buffer of the list is one of the TensorCore's. -/
theorem of_uc {P : DevRef τ sig → Prop} (h : ∀ r : Ref sig .tc, P (Proc.devRef .tc r)) : ∀ b ∈ Pipeline.ucRefs τ sig, P b := by
  intro b hb
  obtain ⟨r, -, rfl⟩ := Finset.mem_map.mp (Finset.mem_filter.mp hb).1
  exact h r

/-- The buffers after the first region: those before it with its result. -/
theorem after0 (c : Dev nD) : ∀ b ∈ Pipeline.ucRefs τ sig, Pipeline.afterRegion (dat0 (V1 m) c) (V1 m c) b = V2 m (outs m) c b := by
  refine of_uc fun r => ?_
  by_cases hr : r = main_v3
  · subst hr
    unfold V2
    rw [Function.update_self, outs_v3]
    exact Pipeline.afterRegion_arr (dat0 (V1 m) c) (V1 m c) launch0.win.arr_inj 3
  · rw [V2_of m (outs m) c r (by simpa using hr)]
    refine Pipeline.afterRegion_keeps (dat0 (V1 m) c) (V1 m c) launch0.win.arr_inj (fun _ => rfl) r fun w hw => ?_
    subst hw
    revert hr; revert w; decide

/-- The buffers after the second region: those before it with its result. -/
theorem after1 (c : Dev nD) : ∀ b ∈ Pipeline.ucRefs τ sig,
    Pipeline.afterRegion (dat1 (V3 m (outsA m)) c) (V3 m (outsA m) c) b = V4 m (outs m) c b := by
  refine of_uc fun r => ?_
  by_cases hr : r = main_v5
  · subst hr
    unfold V4
    rw [Function.update_self, outs_v5]
    exact Pipeline.afterRegion_arr (dat1 (V3 m (outsA m)) c) (V3 m (outsA m) c) launch1.win.arr_inj 6
  · rw [V4_of m (outs m) c r (by simpa using hr), V3_outs]
    refine Pipeline.afterRegion_keeps (dat1 (V3 m (outsA m)) c) (V3 m (outsA m) c) launch1.win.arr_inj (fun _ => rfl) r fun w hw => ?_
    subst hw
    revert hr; revert w; decide

theorem uc0 : Pipeline.arrRefs (τ := τ) spec0 ⊆ Pipeline.ucRefs τ sig := Pipeline.arrRefs_sub_ucRefs _ (by decide)
theorem uc1 : Pipeline.arrRefs (τ := τ) spec1 ⊆ Pipeline.ucRefs τ sig := Pipeline.arrRefs_sub_ucRefs _ (by decide)

theorem pre0 (c : Dev nD) : iprop(StableHlo.held (c : Thread nD τ) (Pipeline.ucRefs τ sig) (V1 m c) ∗ E (F := F) 0 c) ⊢ (reg0 m).pre c := by
  unfold reg0
  refine BIBase.Entails.trans ?_ (RegionSeg.ofHeldIn_pre ?_ c)
  rotate_left; · exact uc0
  unfold E
  iintro ⟨H, HO⟩
  isplitl [H]; · iexact H
  isplitl [HO]; · iexact HO
  isplitl [] <;> iempintro

theorem pre1 (c : Dev nD) : iprop(StableHlo.held (c : Thread nD τ) (Pipeline.ucRefs τ sig) (V3 m (outs m) c) ∗ E (F := F) 1 c) ⊢ (reg1 m).pre c := by
  unfold reg1
  refine BIBase.Entails.trans ?_ (RegionSeg.ofHeldIn_pre ?_ c)
  rotate_left; · exact uc1
  rw [V3_outs]
  unfold E
  iintro ⟨H, HO⟩
  isplitl [H]; · iexact H
  isplitl [HO]; · iexact HO
  isplitl [] <;> iempintro

theorem post0 (c : Dev nD) : (reg0 m).post c ⊢ iprop(StableHlo.held (c : Thread nD τ) (Pipeline.ucRefs τ sig) (V2 m (outs m) c) ∗ E (F := F) 1 c) := by
  unfold reg0
  refine BIBase.Entails.trans (RegionSeg.ofHeldIn_post ?_ c) ?_
  · exact uc0
  rw [show pdats m 0 c = dat0 (V1 m) c from rfl, StableHlo.held_congr (c : Thread nD τ) (V' := V2 m (outs m) c) (after0 m c)]
  unfold E
  iintro ⟨H, HO, -, -⟩
  isplitl [H]; · iexact H
  iexact HO

theorem post1 (c : Dev nD) : (reg1 m).post c ⊢ iprop(StableHlo.held (c : Thread nD τ) (Pipeline.ucRefs τ sig) (V4 m (outs m) c) ∗ E (F := F) 2 c) := by
  unfold reg1
  refine BIBase.Entails.trans (RegionSeg.ofHeldIn_post ?_ c) ?_
  · exact uc1
  rw [show pdats m 1 c = dat1 (V3 m (outsA m)) c from rfl, StableHlo.held_congr (c : Thread nD τ) (V' := V4 m (outs m) c) (after1 m c)]
  unfold E
  iintro ⟨H, HO, -, -⟩
  isplitl [H]; · iexact H
  iexact HO

end Cert.GridProof
-- ==== Proof.Host.lean ====
module

public import Idealize.ShloMosaic.Lib.StableHlo.ReadAt
public import proofs.«01_k».proof.Proof.Out1
public import proofs.«01_k».proof.Proof.Regs

/-! The host lines around the two regions, read at an index, and with them the kernel's result. -/

@[expose] public section

noncomputable section

namespace Cert.GridProof

open Cert.KernelIdeal Cert.KernelIdeal.Gen
open Idealize.ShloMosaic Idealize.ShloMosaic.TcCoe Idealize.SL.Sem

variable (m : (ℓ : Loc nD τ sig) → Buf (Elt Ideal) ℓ)

/-- The levels' tables. -/
theorem lit0_eq : ∀ l : Fin 16, lit0 l = BitVec.ofNat 32 (loN l) := by decide +kernel
theorem lit1_eq : ∀ l : Fin 16, lit1 l = BitVec.ofNat 32 (hiN l) := by decide +kernel

theorem rowMajor_col (l : Fin 16) : S16x1.rowMajor (ix2 l 0) = l := by
  apply Fin.ext
  rw [Shape.rowMajor_val_two]
  show l.val * 1 + 0 = l.val
  omega

/-- How many entries a level holds, as the third table has it. -/
def cnt (l : Fin 16) : ℝ := ((hiN l - loN l : ℕ) : ℝ)

theorem lit2_eq (l : Fin 16) : Ideal.ofBits FTy.f32 (lit2 l) = ((cnt l : ℝ) : EReal) := by
  have h : ∀ l : Fin 16, (lit2 l = 0x45800000#32 ∧ hiN l - loN l = 4096) ∨ (lit2 l = 0x46580000#32 ∧ hiN l - loN l = 13824)
      ∨ (lit2 l = 0x47364000#32 ∧ hiN l - loN l = 46656) ∨ (lit2 l = 0x4819C600#32 ∧ hiN l - loN l = 157464)
      ∨ (lit2 l = 0x49000000#32 ∧ hiN l - loN l = 524288) := by decide +kernel
  unfold cnt
  rcases h l with ⟨a, b⟩ | ⟨a, b⟩ | ⟨a, b⟩ | ⟨a, b⟩ | ⟨a, b⟩ <;> rw [a, b] <;>
    simp [Ideal.ofBits, Ideal.ieee, -EReal.coe_mul] <;> norm_num

/-- The tables at the first region's entry. -/
theorem V1_main_c (c : Dev nD) (l : Fin 16) : V1 m c main_c (ix2 l 0) = BitVec.ofNat 32 (loN l) := by
  unfold V1
  after_reads_at
  rw [rowMajor_col, lit0_eq]

theorem V1_main_c_0 (c : Dev nD) (l : Fin 16) : V1 m c main_c_0 (ix2 l 0) = BitVec.ofNat 32 (hiN l) := by
  unfold V1
  after_reads_at
  rw [rowMajor_col, lit1_eq]

/-- The transposed operand. -/
theorem V1_main_v0 (c : Dev nD) (b : Fin 4) (ch : Fin 2) (n : Fin 6513496) :
    V1 m c main_v0 (ix3 b ch n) = m ((c : Thread nD τ).loc main_arg0) (ix3 n b ch) := by
  unfold V1
  after_reads_at

/-- The levels' factors. -/
theorem V1_main_v2 (c : Dev nD) (l : Fin 16) : V1 m c main_v2 (ix2 l 0) = Ideal.div 1 ((cnt l : ℝ) : EReal) := by
  unfold V1
  after_reads_at
  rw [rowMajor_col, lit2_eq]

/-- The second region's entry has the first's buffers, the sums and the bias as a column. -/
theorem V3_kept (c : Dev nD) (r : Ref sig .tc) (h : r ∉ hostOps1_W) (h' : r ∉ ([main_v3] : List (Ref sig .tc))) :
    V3 m (outsA m) c r = V1 m c r := (V3_of m (outsA m) c r h).trans (V2_of m (outsA m) c r h')

theorem V3_main_v3 (c : Dev nD) : V3 m (outsA m) c main_v3 = left0 m c := by
  rw [V3_of m (outsA m) c main_v3 (by decide), V2, Function.update_self, outsA_v3]

theorem V3_main_v4 (c : Dev nD) (d : Fin 2) :
    V3 m (outsA m) c main_v4 (ix2 d 0) = m ((c : Thread nD τ).loc main_arg4) (ix1 d) := by
  unfold V3
  after_reads_at
  rw [V2_of m (outsA m) c main_arg4 (by decide), V1_of m c main_arg4 (by decide)]

theorem V4_main_v5 (c : Dev nD) : V4 m (outs m) c main_v5 = left1 m c := by
  rw [V4, Function.update_self, outs_v5]

/-- The result is the second region's array, transposed. -/
theorem V5_main_v6 (c : Dev nD) (b : Fin 4) (ch : Fin 2) (n : Fin 6513496) :
    V5 m (outs m) c main_v6 (ix3 n b ch) = left1 m c (ix3 b ch n) := by
  unfold V5
  after_reads_at
  rw [V4_main_v5]

/-- A level's sum of the operand, per batch row and channel. -/
def levelSum (x : S6513496x4x2.Idx → EReal) (b : Fin 4) (ch : Fin 2) (l : Fin 16) : EReal :=
  ∑ n : Fin 6513496, x (ix3 n b ch) * oh l n.val

theorem tables1 (c : Dev nD) : Tables (V1 m) c := ⟨V1_main_c m c, V1_main_c_0 m c⟩

theorem lsum_eq (c : Dev nD) (b : Fin 4) (ch : Fin 2) (l : Fin 16) :
    lsum (V1 m) c b ch l = levelSum (m ((c : Thread nD τ).loc main_arg0)) b ch l := by
  unfold lsum levelSum
  rw [Finset.sum_range]
  refine Finset.sum_congr rfl fun n _ => ?_
  unfold xs
  rw [dif_pos n.isLt, V1_main_v0]

theorem left0_apply (c : Dev nD) (b : Fin 4) (ch : Fin 2) (l : Fin 16) :
    left0 m c (ix3 b ch l) = levelSum (m ((c : Thread nD τ).loc main_arg0)) b ch l := by
  unfold left0
  rw [left0_eq (V1 m) c (tables1 m c)]
  exact lsum_eq m c b ch l

theorem entry_congr {W W' : Fin 2 → Fin 2 → EReal} {S S' : Fin 4 → Fin 2 → Fin 16 → EReal} {r r' : Fin 16 → EReal}
    {b b' : Fin 2 → EReal} (hW : ∀ d ch, W d ch = W' d ch) (hS : ∀ bb ch l, S bb ch l = S' bb ch l) (hr : ∀ l, r l = r' l)
    (hb : ∀ d, b d = b' d) (bb : Fin 4) (d : Fin 2) (n : ℕ) : entry W S r b bb d n = entry W' S' r' b' bb d n := by
  unfold entry
  simp only [hW, hS, hr, hb]

/-- THE KERNEL'S RESULT at an index. -/
theorem result_apply (c : Dev nD) (n : Fin 6513496) (b : Fin 4) (d : Fin 2) :
    V5 m (outs m) c main_v6 (ix3 n b d)
      = entry (fun d ch => m ((c : Thread nD τ).loc main_arg3) (ix2 d ch)) (levelSum (m ((c : Thread nD τ).loc main_arg0)))
          (fun l => Ideal.div 1 ((cnt l : ℝ) : EReal)) (fun d => m ((c : Thread nD τ).loc main_arg4) (ix1 d)) b d n.val := by
  rw [V5_main_v6]
  have hT : Tables (V3 m (outsA m)) c := ⟨fun l => by rw [V3_kept m c main_c (by decide) (by decide), V1_main_c],
    fun l => by rw [V3_kept m c main_c_0 (by decide) (by decide), V1_main_c_0]⟩
  have h : left1 m c (ix3 b d n) = entryOf (V3 m (outsA m)) c b d n.val := left1_apply (V3 m (outsA m)) c hT b d n
  rw [h]
  unfold entryOf
  refine entry_congr (fun d ch => ?_) (fun b ch l => ?_) (fun l => ?_) (V3_main_v4 m c) b d n.val
  · rw [V3_kept m c main_arg3 (by decide) (by decide), V1_of m c main_arg3 (by decide)]
  · rw [V3_main_v3, left0_apply]
  · rw [V3_kept m c main_v2 (by decide) (by decide), V1_main_v2]

end Cert.GridProof
-- ==== Proof.Rows.lean ====
module

public import Idealize.ShloMosaic.Lib.Routing.OpsPair
public import Idealize.ShloMosaic.Lib.Pointwise
public import Idealize.ShloMosaic.PureOps.Ideal.Laws

/-! A sum by segments at exact numbers: which updates a scatter of rows, or of single entries, adds to an element. -/

@[expose] public section

noncomputable section

namespace Cert.GridProof

open Idealize.ShloMosaic

variable {R C N : ℕ}

/-- Whole rows added into a table, one index word a row. -/
def rowsDims (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

/-- Single entries added into a vector, one index word an entry. -/
def cellsDims (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

theorem rows_land (wf) (idx : IVec ⟨2, ![N, 1]⟩ 32) (n : Fin N) (e : Fin C) (r : Fin R) (q : Fin C) :
    (rowsDims wf).resultIdx? (ix2 n e) idx = some (ix2 r q)
      ↔ (idx (ix2 n (0 : Fin 1))).toInt = (r.val : Int) ∧ e = q := by
  rw [Routing.resultIdx?_eq_some, Fin.forall_fin_two]
  have h0 : (rowsDims wf).start (ix2 n e) idx 0 = (idx (ix2 n (0 : Fin 1))).toInt :=
    congrArg (fun k => (idx k).toInt) (funext fun a => match a with
      | ⟨0, _⟩ => rfl
      | ⟨1, _⟩ => rfl)
  have h1 : (rowsDims wf).start (ix2 n e) idx 1 = 0 := rfl
  have w0 : (rowsDims wf).window (ix2 n e) 0 = 0 := rfl
  have w1 : (rowsDims wf).window (ix2 n e) 1 = e.val := rfl
  rw [h0, h1, w0, w1, Fin.ext_iff]
  change _ + ((0 : ℕ) : Int) = (r.val : Int) ∧ (0 : Int) + (e.val : Int) = (q.val : Int) ↔ _
  omega

theorem cells_land (wf) (idx : IVec ⟨2, ![N, 1]⟩ 32) (n : Fin N) (r : Fin R) :
    (cellsDims wf).resultIdx? (ix1 n) idx = some (ix1 r) ↔ (idx (ix2 n (0 : Fin 1))).toInt = (r.val : Int) := by
  rw [Routing.resultIdx?_eq_some, Fin.forall_fin_one]
  have h0 : (cellsDims wf).start (ix1 n) idx 0 = (idx (ix2 n (0 : Fin 1))).toInt :=
    congrArg (fun k => (idx k).toInt) (funext fun a => match a with
      | ⟨0, _⟩ => rfl
      | ⟨1, _⟩ => rfl)
  have w0 : (cellsDims wf).window (ix1 n) 0 = 0 := rfl
  rw [h0, w0]
  change _ + ((0 : ℕ) : Int) = (r.val : Int) ↔ _
  omega

/-- The table's element plus the update entries of its own column whose word names its row. -/
theorem rows_sum (wf) (x : (⟨2, ![R, C]⟩ : Shape).Idx → EReal) (idx : IVec ⟨2, ![N, 1]⟩ 32)
    (upd : (⟨2, ![N, C]⟩ : Shape).Idx → EReal) (r : Fin R) (q : Fin C) :
    Ideal.hostScatterAdd (rowsDims wf) x idx upd (ix2 r q)
      = x (ix2 r q) + ∑ n : Fin N, if (idx (ix2 n (0 : Fin 1))).toInt = (r.val : Int) then upd (ix2 n q) else 0 := by
  refine congrArg (x (ix2 r q) + ·) ?_
  rw [← Finset.sum_filter]
  symm
  refine Finset.sum_bij (fun n _ => ix2 n q) (fun n hn => ?_) (fun n _ n' _ h => congrFun h 0) (fun j hj => ?_) (fun n _ => rfl)
  · rw [Finset.mem_filter] at hn ⊢
    exact ⟨Finset.mem_univ _, (rows_land wf idx n q r q).2 ⟨hn.2, rfl⟩⟩
  · obtain ⟨n, e, rfl⟩ : ∃ (n : Fin N) (e : Fin C), j = ix2 n e := ⟨j 0, j 1, eq_ix2 j⟩
    rw [Finset.mem_filter] at hj
    obtain ⟨a, rfl⟩ := (rows_land wf idx n e r q).1 hj.2
    exact ⟨n, Finset.mem_filter.2 ⟨Finset.mem_univ _, a⟩, rfl⟩

theorem cells_sum (wf) (x : (⟨1, ![R]⟩ : Shape).Idx → EReal) (idx : IVec ⟨2, ![N, 1]⟩ 32)
    (upd : (⟨1, ![N]⟩ : Shape).Idx → EReal) (r : Fin R) :
    Ideal.hostScatterAdd (cellsDims wf) x idx upd (ix1 r)
      = x (ix1 r) + ∑ n : Fin N, if (idx (ix2 n (0 : Fin 1))).toInt = (r.val : Int) then upd (ix1 n) else 0 := by
  refine congrArg (x (ix1 r) + ·) ?_
  rw [← Finset.sum_filter]
  symm
  refine Finset.sum_bij (fun n _ => ix1 n) (fun n hn => ?_) (fun n _ n' _ h => congrFun h 0) (fun j hj => ?_) (fun n _ => rfl)
  · rw [Finset.mem_filter] at hn ⊢
    exact ⟨Finset.mem_univ _, (cells_land wf idx n r).2 hn.2⟩
  · obtain ⟨n, rfl⟩ : ∃ n : Fin N, j = ix1 n := ⟨j 0, eq_ix1 j⟩
    rw [Finset.mem_filter] at hj
    exact ⟨n, Finset.mem_filter.2 ⟨Finset.mem_univ _, (cells_land wf idx n r).1 hj.2⟩, rfl⟩

/-- A segment sum at exact numbers. -/
theorem scatterAdd_exact {s si u : Shape} {w : ℕ} {φ : FTy} (d : ScatterDims s si u) (x : FVec Ideal s φ) (idx : IVec si w)
    (upd : FVec Ideal u φ) : Host.scatterAdd d x idx upd = Ideal.hostScatterAdd d x idx upd := rfl

end Cert.GridProof
-- ==== Proof.Ref.lean ====
module

public import Idealize.ShloMosaic.Lib.StableHlo.Predicate
public import Idealize.ShloMosaic.Lib.ReduceAll
public import Idealize.ShloMosaic.Lib.Routing.Ops
public import proofs.«01_k».proof.Proof.Gen.ReferenceIdeal.Read
public import proofs.«01_k».proof.Proof.Host
public import proofs.«01_k».proof.Proof.Rows

/-! The plain program's lines, read at an index under the offsets the grid has. -/

@[expose] public section

noncomputable section

namespace Cert.GridProof.Plain

open Cert.ReferenceIdeal Cert.ReferenceIdeal.Gen Cert.ReferenceIdeal.Read
open Idealize.ShloMosaic Idealize.ShloMosaic.TcCoe Idealize.SL.Sem

/-! ## Which level an entry lies in -/

/-- Every entry lies in a level. -/
theorem level_exists (n : ℕ) (h : n < 6513496) : ∃ l : Fin 16, loN l ≤ n ∧ n < hiN l := by
  by_contra hn
  simp only [not_exists, not_and, not_lt, Fin.forall_fin_succ, loN, hiN] at hn
  simp at hn
  omega

theorem card_before : ∀ l : Fin 16, (Finset.univ.filter fun q : Fin 16 => q < l).card = l.val := by decide +kernel
theorem hi_le_lo : ∀ q l : Fin 16, q < l → hiN q ≤ loN l := by decide +kernel
theorem hi_mono : ∀ q l : Fin 16, l ≤ q → hiN l ≤ hiN q := by decide +kernel

/-- As many levels end at or before an entry of level `l` as there are levels before `l`. -/
theorem ended_iff {n : ℕ} {l : Fin 16} (h : loN l ≤ n ∧ n < hiN l) (q : Fin 16) : hiN q ≤ n ↔ q < l := by
  constructor
  · intro hq
    by_contra hc
    have := hi_mono q l (not_lt.1 hc)
    omega
  · intro hq
    have := hi_le_lo q l hq
    omega

theorem oh_of_level {n : ℕ} {l : Fin 16} (h : loN l ≤ n ∧ n < hiN l) (q : Fin 16) : oh q n = if q = l then 1 else 0 := by
  unfold oh
  refine if_congr ⟨fun hq => ?_, fun hq => hq ▸ h⟩ rfl rfl
  have a := (ended_iff h q).not
  have b := (ended_iff hq l).not
  rw [not_le, not_lt] at a b
  exact le_antisymm (b.1 h.2) (a.1 hq.2)

/-! ## The level words -/

section
variable (x1 : IVec S17 32)

/-- The offsets are the grid's. -/
def Grid : Prop := ∀ q : Fin 16, x1 (ix1 ⟨q.val + 1, by omega⟩) = BitVec.ofNat 32 (hiN q)

variable {x1}

theorem ends_apply (hx : Grid x1) (n : Fin 6513496) (q : Fin 16) :
    val_main_v4 (F := Ideal) x1 (ix2 n q) = BitVec.ofNat 32 (hiN q) := by
  rw [val_main_v4_apply, val_main_v2_apply, val_main_v1_apply, ← hx q]
  refine congrArg x1 (funext fun a => match a with | ⟨0, _⟩ => Fin.ext ?_)
  exact Nat.add_comm 1 q.val

theorem entry_word (n : Fin 6513496) (q : Fin 16) : val_main_v5 (F := Ideal) (ix2 n q) = BitVec.ofNat 32 n.val := by
  rw [val_main_v5_apply, val_main_v3_apply, val_main_v0_apply]
  rfl

theorem ended_apply (hx : Grid x1) (n : Fin 6513496) (q : Fin 16) :
    val_main_v6 (F := Ideal) x1 (ix2 n q) = 1#1 ↔ hiN q ≤ n.val := by
  rw [val_main_v6_apply, ends_apply hx, entry_word]
  have h1 := hiN_le q
  have h2 := n.isLt
  rw [show IntOp.cmpi .sle (BitVec.ofNat 32 (hiN q)) (BitVec.ofNat 32 n.val) = BitVec.ofBool ((BitVec.ofNat 32 (hiN q)).sle (BitVec.ofNat 32 n.val)) from rfl]
  rw [BitVec.sle_eq_decide, BitVec.toInt_eq_toNat_cond, BitVec.toInt_eq_toNat_cond, BitVec.toNat_ofNat, BitVec.toNat_ofNat]
  rw [Nat.mod_eq_of_lt (by omega), Nat.mod_eq_of_lt (by omega), if_pos (by omega), if_pos (by omega)]
  by_cases h : hiN q ≤ n.val <;> simp [h]

theorem level_word (hx : Grid x1) (n : Fin 6513496) (l : Fin 16) (h : loN l ≤ n.val ∧ n.val < hiN l) :
    val_main_v8 (F := Ideal) x1 (ix1 n) = BitVec.ofNat 32 l.val := by
  apply BitVec.eq_of_toNat_eq
  rw [show val_main_v8 (F := Ideal) x1 = Host.reduce IntOp.addi (extui 32 (val_main_v6 (F := Ideal) x1) natLt_1_32) (constantI S_ 32 0#32)
    reducesTo_S6513496x16_S6513496_d1 h_S_ from rfl]
  refine (StableHlo.Predicate.toNat_reduce_count_cols (by decide) (val_main_v6 (F := Ideal) x1) natLt_1_32
    reducesTo_S6513496x16_S6513496_d1 h_S_ (ix1 n)).trans ?_
  rw [BitVec.toNat_ofNat, Nat.mod_eq_of_lt (by have := l.isLt; omega)]
  refine (congrArg Finset.card (Finset.filter_congr (q := fun q => q < l) fun q _ => ?_)).trans (card_before l)
  have hv : StableHlo.Predicate.ij (n := 6513496) (m := 16) n q = ix2 n q := eq_ix2 _
  exact (iff_of_eq (congrArg (fun k => val_main_v6 (F := Ideal) x1 k = 1#1) hv)).trans ((ended_apply hx n q).trans (ended_iff h q))

/-! ## The sums and the counts -/

/-- The word of an entry's level names level `r` just at the entries of `r`. -/
theorem word_names (hx : Grid x1) (n : Fin 6513496) (r : Fin 16) (y : EReal) :
    (if (val_main_v8 (F := Ideal) x1 (ix1 n)).toInt = (r.val : Int) then y else 0) = y * oh r n.val := by
  obtain ⟨l, hl⟩ := level_exists n.val n.isLt
  have h2 := l.isLt
  rw [level_word hx n l hl, oh_of_level hl, StableHlo.Predicate.toInt_ofNat_small _ (by omega)]
  by_cases h : r = l
  · subst h
    rw [if_pos rfl, if_pos rfl, mul_one]
  · rw [if_neg h, if_neg (fun e => h (Fin.ext (by omega))), mul_zero]

/-- A batch row and a channel, as a column of the flat table. -/
def col (b : Fin 4) (ch : Fin 2) : Fin 8 := ⟨b.val * 2 + ch.val, by omega⟩

theorem flat_apply (x0 : S6513496x4x2.Idx → EReal) (n : Fin 6513496) (b : Fin 4) (ch : Fin 2) :
    val_main_v9 (F := Ideal) x0 (ix2 n (col b ch)) = x0 (ix3 n b ch) := by
  rw [val_main_v9_apply]
  refine congrArg x0 (funext fun a => ?_)
  have hb := b.isLt
  have hc := ch.isLt
  match a with
  | ⟨0, _⟩ =>
    refine Fin.ext ?_
    show (n.val * 8 + (b.val * 2 + ch.val)) / 8 = n.val
    omega
  | ⟨1, _⟩ =>
    refine Fin.ext ?_
    show (n.val * 8 + (b.val * 2 + ch.val)) / 2 % 4 = b.val
    omega
  | ⟨2, _⟩ =>
    refine Fin.ext ?_
    show (n.val * 8 + (b.val * 2 + ch.val)) % 2 = ch.val
    omega

theorem word11 (n : Fin 6513496) : val_main_v11 (F := Ideal) x1 (ix2 n 0) = val_main_v8 (F := Ideal) x1 (ix1 n) := by
  rw [val_main_v11_apply]
  exact congrArg (val_main_v8 (F := Ideal) x1) (funext fun a => match a with | ⟨0, _⟩ => rfl)

theorem word15 (n : Fin 6513496) : val_main_v15 (F := Ideal) x1 (ix2 n 0) = val_main_v8 (F := Ideal) x1 (ix1 n) := by
  rw [val_main_v15_apply]
  exact congrArg (val_main_v8 (F := Ideal) x1) (funext fun a => match a with | ⟨0, _⟩ => rfl)

theorem zero10 (i : S16x8.Idx) : val_main_v10 (F := Ideal) i = (0 : EReal) := by
  rw [val_main_v10_apply, val_main_cst_apply]
  exact Ideal.ofBits_zero_f32

theorem zero14 (i : S16.Idx) : val_main_v14 (F := Ideal) i = (0 : EReal) := by
  rw [val_main_v14_apply, val_main_cst_1_apply]
  exact Ideal.ofBits_zero_f32

theorem one13 (i : S6513496.Idx) : val_main_v13 (F := Ideal) i = (1 : EReal) := by
  rw [val_main_v13_apply, val_main_cst_0_apply]
  show Ideal.ofBits .f32 0x3F800000#32 = 1
  simp [Ideal.ofBits, Ideal.ieee, -EReal.coe_mul]
  norm_num

theorem dims12 : scatter_S16x8_S6513496x1_S6513496x8_1_0_0_1 = rowsDims scatter_S16x8_S6513496x1_S6513496x8_1_0_0_1_wf := rfl
theorem dims16 : scatter_S16_S6513496x1_S6513496_n_0_0_1 = cellsDims scatter_S16_S6513496x1_S6513496_n_0_0_1_wf := rfl

theorem sums_apply (hx : Grid x1) (x0 : S6513496x4x2.Idx → EReal) (r : Fin 16) (b : Fin 4) (ch : Fin 2) :
    val_main_v12 (F := Ideal) x0 x1 (ix2 r (col b ch)) = levelSum x0 b ch r := by
  unfold val_main_v12
  rw [scatterAdd_exact, dims12, rows_sum, zero10, zero_add]
  unfold levelSum
  refine Finset.sum_congr rfl fun n _ => ?_
  rw [word11, flat_apply]
  exact word_names hx n r _

/-- A finite sum of real numbers is the same among the extended ones. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A level has as many entries as its bounds are apart. -/
theorem sum_oh (r : Fin 16) : (∑ n : Fin 6513496, oh r n.val) = ((cnt r : ℝ) : EReal) := by
  have h : ∀ n : ℕ, oh r n = (((if loN r ≤ n ∧ n < hiN r then 1 else 0 : ℝ)) : EReal) := fun n => by
    unfold oh
    split_ifs <;> rfl
  rw [← Finset.sum_range (fun n => oh r n)]
  simp only [h]
  rw [← coe_sum, Finset.sum_boole]
  have hf : (Finset.range 6513496).filter (fun n => loN r ≤ n ∧ n < hiN r) = Finset.Ico (loN r) (hiN r) := by
    ext n
    have := hiN_le r
    rw [Finset.mem_filter, Finset.mem_range, Finset.mem_Ico]
    omega
  rw [hf, Nat.card_Ico]
  rfl

theorem counts_apply (hx : Grid x1) (r : Fin 16) : val_main_v16 (F := Ideal) x1 (ix1 r) = ((cnt r : ℝ) : EReal) := by
  unfold val_main_v16
  rw [scatterAdd_exact, dims16, cells_sum, zero14, zero_add, ← sum_oh]
  refine Finset.sum_congr rfl fun n _ => ?_
  rw [word15, one13]
  refine (word_names hx n r _).trans ?_
  rw [one_mul]

theorem means_apply (hx : Grid x1) (x0 : S6513496x4x2.Idx → EReal) (r : Fin 16) (b : Fin 4) (ch : Fin 2) :
    val_main_v19 (F := Ideal) x0 x1 (ix2 r (col b ch)) = Ideal.div (levelSum x0 b ch r) ((cnt r : ℝ) : EReal) := by
  rw [val_main_v19_apply, sums_apply hx, val_main_v18_apply, val_main_v17_apply]
  rw [show idx_main_v17 (idx_main_v18 (ix2 r (col b ch))) = ix1 r from funext fun a => match a with | ⟨0, _⟩ => rfl, counts_apply hx]
  rfl

/-! ## The take and the affine map -/

theorem wrapped : ∀ l : Fin 16, Scalar.select (IntOp.cmpi .slt (BitVec.ofNat 32 l.val) 0#32)
    (IntOp.addi (BitVec.ofNat 32 l.val) 16#32) (BitVec.ofNat 32 l.val) = BitVec.ofNat 32 l.val := by decide +kernel

theorem in_table : ∀ l : Fin 16, IntOp.andi (IntOp.cmpi .sge (BitVec.ofNat 32 l.val) 0#32)
    (IntOp.cmpi .sle (BitVec.ofNat 32 l.val) 15#32) = 1#1 := by decide +kernel

theorem take_word (hx : Grid x1) (n : Fin 6513496) (z : Fin 1) (l : Fin 16) (h : loN l ≤ n.val ∧ n.val < hiN l) :
    val_main_call0_v5 (F := Ideal) x1 (ix2 n z) = BitVec.ofNat 32 l.val := by
  rw [val_main_call0_v5_apply, show idx_main_call0_v5 (ix2 n z) = ix1 n from funext fun a => match a with | ⟨0, _⟩ => rfl,
    val_main_call0_v4_apply, val_main_call0_v1_apply, val_main_call0_v3_apply, level_word hx n l h, val_main_call0_v0_apply,
    val_main_call0_v2_apply, val_main_call0_c_apply, val_main_call0_c_0_apply]
  exact wrapped l

theorem take_inside (hx : Grid x1) (i : S6513496.Idx) : val_main_call0_v12 (F := Ideal) x1 i = 1#1 := by
  unfold val_main_call0_v12
  refine Host.reduce_andi_one _ _ _ _ _ (val_main_call0_c_3_apply (F := Ideal) _) fun k => ?_
  obtain ⟨n, z, rfl⟩ : ∃ (n : Fin 6513496) (z : Fin 1), k = ix2 n z := ⟨k 0, k 1, eq_ix2 k⟩
  obtain ⟨l, hl⟩ := level_exists n.val n.isLt
  rw [val_main_call0_v11_apply, val_main_call0_v7_apply, val_main_call0_v10_apply, take_word hx n z l hl, val_main_call0_v6_apply,
    val_main_call0_v9_apply, val_main_call0_v8_apply, val_main_call0_c_2_apply, val_main_call0_c_1_apply]
  exact in_table l

theorem taken_apply (hx : Grid x1) (x0 : S6513496x4x2.Idx → EReal) (n : Fin 6513496) (q : Fin 8) (l : Fin 16)
    (h : loN l ≤ n.val ∧ n.val < hiN l) : val_main_v20 (F := Ideal) x0 x1 (ix2 n q) = val_main_v19 (F := Ideal) x0 x1 (ix2 l q) := by
  rw [val_main_v20_apply, val_main_call0_v14_apply, take_inside hx]
  have e : ∀ a b : EReal, Scalar.select (1#1) a b = a := fun _ _ => rfl
  refine (e _ _).trans ?_
  unfold val_main_call0_v13
  have hw := take_word hx n 0 l h
  revert hw
  generalize val_main_call0_v5 (F := Ideal) x1 = idx
  generalize val_main_v19 (F := Ideal) x0 x1 = t
  intro hw
  have e2 : ∀ {A B : ℕ} (a : Fin A) (b : Fin B), (ix2 a b) = ValueIdx.ix2 a b := fun a b => ValueIdx.eq_ix2 _
  have g := Routing.gather_row gather_S16x8_S6513496x1_S6513496x8_1_0_n_n_0_1_18 rfl rfl rfl rfl rfl t idx n q l (by rw [← e2]; exact hw) (by decide)
  rw [e2, e2]
  exact g

/-- THE PLAIN PROGRAM'S RESULT at an index of level `l`. -/
theorem result_apply (hx : Grid x1) (x0 : S6513496x4x2.Idx → EReal) (x3 : S2x2.Idx → EReal) (x4 : S2.Idx → EReal)
    (n : Fin 6513496) (b : Fin 4) (d : Fin 2) (l : Fin 16) (h : loN l ≤ n.val ∧ n.val < hiN l) :
    val_main_v26 (F := Ideal) x0 x1 x3 x4 (ix3 n b d)
      = (∑ ch : Fin 2, Ideal.div (levelSum x0 b ch l) ((cnt l : ℝ) : EReal) * x3 (ix2 d ch)) + x4 (ix1 d) := by
  have h23 : val_main_v23 (F := Ideal) x0 x1 x3 (ix3 n b d)
      = ∑ ch : Fin 2, Ideal.div (levelSum x0 b ch l) ((cnt l : ℝ) : EReal) * x3 (ix2 d ch) := by
    rw [val_main_v23_apply]
    refine Finset.sum_congr rfl fun ch _ => ?_
    have e1 : val_main_v21 (F := Ideal) x0 x1 (lidx_main_v23 (ix3 n b d) ch)
        = Ideal.div (levelSum x0 b ch l) ((cnt l : ℝ) : EReal) := by
      have hi : idx_main_v21 (lidx_main_v23 (ix3 n b d) ch) = ix2 n (col b ch) := funext fun a => by
        have hb := b.isLt
        have hc := ch.isLt
        match a with
        | ⟨0, _⟩ =>
          refine Fin.ext ?_
          show ((n.val * 4 + b.val) * 2 + ch.val) / 8 = n.val
          omega
        | ⟨1, _⟩ =>
          refine Fin.ext ?_
          show ((n.val * 4 + b.val) * 2 + ch.val) % 8 = b.val * 2 + ch.val
          omega
      rw [val_main_v21_apply, hi, taken_apply hx x0 n _ l h, means_apply hx]
    have e2 : val_main_v22 (F := Ideal) x3 (ridx_main_v23 (ix3 n b d) ch) = x3 (ix2 d ch) := by
      rw [val_main_v22_apply]
      exact congrArg x3 (funext fun a => match a with | ⟨0, _⟩ => rfl | ⟨1, _⟩ => rfl)
    rw [e1, e2]
  have h25 : val_main_v25 (F := Ideal) x4 (ix3 n b d) = x4 (ix1 d) := by
    rw [val_main_v25_apply, val_main_v24_apply]
    exact congrArg x4 (funext fun a => match a with | ⟨0, _⟩ => rfl)
  rw [val_main_v26_apply, h23, h25]
  rfl
end

end Cert.GridProof.Plain
-- ==== Proof.KernelRun.lean ====
/-
  The kernel's run, assembled from the host stretches and the regions' records.
-/
module

public import proofs.«01_k».proof.Proof.Regs

@[expose] public section

noncomputable section

namespace Cert.GridProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose Seg HostSeg RegionSeg)

variable {F : FTy → Type} [FloatOps F]

local notation "𝕄" => MT nD τ sig Unit (Elt F) ℕ (UR sig nD τ) ℕ

variable (m : (ℓ : Loc nD τ sig) → Buf (Elt F) ℓ)

/-- What a final memory holds on a core: the arguments as launched, the result as followed through the run. -/
def Ends (c : Dev nD) (s : MemSt nD τ sig (Elt F)) : Prop :=
  s.mem ((c : Thread nD τ).loc main_v6) = V5 m (outs m) c main_v6
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)

theorem read_arg {c : Dev nD} {s : MemSt nD τ sig (Elt F)}
    (h : ∀ b ∈ Pipeline.ucRefs τ sig, s.mem (c, b) = V5 m (outs m) c b) (r : Ref sig .tc) (hr : r.isScoped = false) :
    s.mem ((c : Thread nD τ).loc r) = V5 m (outs m) c r :=
  h (Proc.devRef .tc r) (Finset.mem_filter.mpr ⟨StableHlo.devRef_mem_tcRefs r, fun h' => Bool.false_ne_true (hr.symm.trans h')⟩)

/-- The launch's resources. -/
def u₀ : UR sig nD τ := initOf (Pipeline.cells cfgs cellOf_inj) (Pipeline.launchToks cfgs cellOf_inj)

theorem fund : (ownU u₀ : sProp 𝕄) ⊢ |={Set.univ}=> iprop(BI.own (EP (F := F) (initOf (Pipeline.cells cfgs cellOf_inj) (Pipeline.launchToks cfgs cellOf_inj)))
    ∗ bigSep Finset.univ fun _ : Dev nD => (BI.emp : sProp 𝕄)) := by
  rw [BI.bigSep_emp_const, ownU_emb₁]
  iintro H
  imodintro
  isplitl [H]; · iexact H
  iempintro

set_option backward.isDefEq.respectTransparency.types false in
/-- From any memory with every counter at zero the kernel terminates; at the end each core's memory is as `Ends` says and
    every counter is zero again. -/
theorem run (ρ : Dev nD → PrngReg) : θ_run defs (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (pdats m) () cellOf_inj (EP (F := F)) defs₀ 𝒱₀ lvls lv m ρ main
    (segs m (outs m) 𝒱₀ lvls lv E () (pdats m) (reg0 m) (reg1 m))
    (fun c Q => by
      rewrite [main_chain c, Seg.run_eq_chain,
        show (segs m (outs m) 𝒱₀ lvls lv E () (pdats m) (reg0 m) (reg1 m) c).map Seg.prog = [StableHlo.seq hostOps0,
          Prog.lift (.customCall (Pipeline.entry 0) ()), StableHlo.seq hostOps1, Prog.lift (.customCall (Pipeline.entry 1) ()),
          StableHlo.seq hostOps2] from rfl]
      dsimp (config := { failIfUnchanged := false }) only
      exact .rfl)
    (fun c => by simp only [segs, Seg.pipes_host, Seg.pipes_region, Seg.pipes_nil]; decide) 0
    (fun g hg => if_neg hg) (fun _ => BI.emp) u₀ fund
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, pre0 m c, post0 m c, pre1 m c, post1 m c, .rfl⟩)
    (hinit := ?_) (QY := Ends m) (hfin := fun c s' => ?_)
    (hQ := fun _ h hz => ⟨h, funext fun g => hz g (.inr (regions_no_unscoped g.2))⟩)
  · refine Pipeline.initEach lvls lv fun c => ?_
    rw [show unscopedBufs c (fun b => m ((c : Thread nD τ).loc b)) = StableHlo.held (c : Thread nD τ) (Pipeline.ucRefs τ sig) (V0 m c)
      from Pipeline.unscopedBufs_held c (V0 m c)]
    unfold E
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨read_arg m h main_v6 rfl,
        (read_arg m h main_arg0 rfl).trans (V5_main_arg0 m (outs m) c),
        (read_arg m h main_arg1 rfl).trans (V5_main_arg1 m (outs m) c),
        (read_arg m h main_arg2 rfl).trans (V5_main_arg2 m (outs m) c),
        (read_arg m h main_arg3 rfl).trans (V5_main_arg3 m (outs m) c),
        (read_arg m h main_arg4 rfl).trans (V5_main_arg4 m (outs m) c)⟩
    · iexact HSI

end Cert.GridProof
-- ==== Proof.Frames.lean ====
/-
  The frames of the kernel, printed and idealized. At the float words the two printed programs are one program, so one run
  gives both.
-/
module

public import proofs.«01_k».proof.Proof.KernelRun
public import proofs.«01_k».proof.Proof.Gen.Kernel
public import proofs.«01_k».proof.Proof.Gen.ReferenceIdeal
public import proofs.«01_k».proof.Defs

@[expose] public section

noncomputable section

namespace Cert.GridProof

open Idealize.ShloMosaic Idealize.ShloMosaic.TcCoe Idealize.SL.Sem

/-- What a frame says of a final state. -/
def Framed {F : FTy → Type} [FloatOps F] (m : (ℓ : Loc KernelIdeal.nD KernelIdeal.τ KernelIdeal.sig) → Buf (Elt F) ℓ)
    (s : MemSt KernelIdeal.nD KernelIdeal.τ KernelIdeal.sig (Elt F)) : Prop :=
  (∀ c : Dev KernelIdeal.nD,
      s.mem ((c.tc : Thread KernelIdeal.nD KernelIdeal.τ).loc KernelIdeal.main_arg0) = m ((c.tc : Thread KernelIdeal.nD KernelIdeal.τ).loc KernelIdeal.main_arg0)
      ∧ s.mem ((c.tc : Thread KernelIdeal.nD KernelIdeal.τ).loc KernelIdeal.main_arg1) = m ((c.tc : Thread KernelIdeal.nD KernelIdeal.τ).loc KernelIdeal.main_arg1)
      ∧ s.mem ((c.tc : Thread KernelIdeal.nD KernelIdeal.τ).loc KernelIdeal.main_arg2) = m ((c.tc : Thread KernelIdeal.nD KernelIdeal.τ).loc KernelIdeal.main_arg2)
      ∧ s.mem ((c.tc : Thread KernelIdeal.nD KernelIdeal.τ).loc KernelIdeal.main_arg3) = m ((c.tc : Thread KernelIdeal.nD KernelIdeal.τ).loc KernelIdeal.main_arg3)
      ∧ s.mem ((c.tc : Thread KernelIdeal.nD KernelIdeal.τ).loc KernelIdeal.main_arg4) = m ((c.tc : Thread KernelIdeal.nD KernelIdeal.τ).loc KernelIdeal.main_arg4))
    ∧ s.sem = fun _ => 0

/-- The idealized kernel's frame, at any float values. -/
theorem frame {F : FTy → Type} [FloatOps F] (m : (ℓ : Loc KernelIdeal.nD KernelIdeal.τ KernelIdeal.sig) → Buf (Elt F) ℓ)
    (g : Dev KernelIdeal.nD → PrngReg) :
    θ_run (KernelIdeal.defs (F := F)) (onTc (τ := KernelIdeal.τ) (KernelIdeal.main (F := F))) ⟨m, fun _ => 0, g⟩ (fun r => Framed m r.2) :=
  (θ_run (KernelIdeal.defs (F := F)) _ _).mono (fun _ h => ⟨fun c => (h.1 c).2, h.2⟩) (run m g)

set_option maxRecDepth 100000 in
/-- The bodies of the two printed programs are the same. -/
theorem bodies_eq : Kernel.defs₀ (F := Bits) = KernelIdeal.defs₀ (F := Bits) := by
  unfold Kernel.defs₀ KernelIdeal.defs₀
  congr 1
  funext l
  match l with
  | 0 => rfl
  | 1 => rfl
  | ⟨_ + 2, h⟩ => exact absurd h (Nat.not_lt.2 (Nat.le_add_left _ _))

set_option maxRecDepth 100000 in
theorem defs_eq : Kernel.defs (F := Bits) = KernelIdeal.defs (F := Bits) := by
  unfold Kernel.defs KernelIdeal.defs
  exact congrArg (Pipeline.defs (KernelIdeal.pcfgs (F := Bits))) bodies_eq

set_option maxRecDepth 100000 in
theorem main_eq : Kernel.main (F := Bits) = KernelIdeal.main (F := Bits) := rfl

/-- The printed kernel's frame. -/
theorem frame_bits : Cert.quiescent_Kernel := fun m g _ => by
  rw [defs_eq, main_eq]
  exact frame (F := Bits) m g

/-- The idealized kernel's frame. -/
theorem frame_ideal : Cert.quiescent_KernelIdeal := fun m g _ => frame (F := Ideal) m g

end Cert.GridProof
-- ==== Proof.Equal.lean ====
/-
  The two programs' results are equal. At an entry of level `l` the kernel gives the map of the level's sum, times the
  reciprocal of the level's size; the plain program gives the map of the sum divided by the size. A finite factor that is
  not negative may be taken out of a sum of extended reals.
-/
module

public import proofs.«01_k».proof.Proof.Gen.Pre_offsets_of_the_grid
public import proofs.«01_k».proof.Proof.Ref
public import proofs.«01_k».proof.Proof.Frames

@[expose] public section

noncomputable section

namespace Cert.GridProof

open Idealize.ShloMosaic Idealize.ShloMosaic.TcCoe Idealize.SL.Sem

theorem lo_lt_hi : ∀ l : Fin 16, loN l < hiN l := by decide +kernel

theorem cnt_pos (l : Fin 16) : 0 < cnt l := by
  unfold cnt
  have := lo_lt_hi l
  exact Nat.cast_pos.2 (by omega)

/-- The kernel's element at an entry of level `l`. -/
theorem entry_eq (W : Fin 2 → Fin 2 → EReal) (S : Fin 4 → Fin 2 → Fin 16 → EReal) (bias : Fin 2 → EReal) (b : Fin 4) (d : Fin 2)
    (n : ℕ) (l : Fin 16) (h : loN l ≤ n ∧ n < hiN l) :
    entry W S (fun l => Ideal.div 1 ((cnt l : ℝ) : EReal)) bias b d n
      = (∑ ch : Fin 2, Ideal.div (S b ch l) ((cnt l : ℝ) : EReal) * W d ch) + bias d := by
  unfold entry
  refine congrArg (· + bias d) ?_
  have hc := (cnt_pos l).ne'
  rw [Finset.sum_eq_single l]
  · show (∑ ch, W d ch * S b ch l) * (oh l n * Ideal.div 1 ((cnt l : ℝ) : EReal)) = _
    rw [Plain.oh_of_level h, if_pos rfl, one_mul, Ideal.div_coe hc, one_mul, Fin.sum_univ_two, Fin.sum_univ_two, Ideal.div_coe hc,
      Ideal.div_coe hc, EReal.right_distrib_of_nonneg_of_ne_top (EReal.coe_nonneg.2 (one_div_nonneg.2 (cnt_pos l).le)) (EReal.coe_ne_top _)]
    rw [mul_comm (W d 0), mul_comm (W d 1), mul_right_comm, mul_right_comm (S b 1 l)]
  · intro q _ hq
    rw [Plain.oh_of_level h, if_neg hq, zero_mul, mul_zero]
  · intro hl
    exact absurd (Finset.mem_univ l) hl

theorem offset_words : ∀ q : Fin 16, Pre_offsets_of_the_grid.lit0 q = BitVec.ofNat 32 (hiN q) := by
  decide +kernel

/-- The precondition, read: the offsets are the grid's. -/
theorem grid_of_pre {x0 : FVec Ideal Pre_offsets_of_the_grid.S6513496x4x2 .f32} {x1 : IVec Pre_offsets_of_the_grid.S17 32}
    {x2 : IVec Pre_offsets_of_the_grid.S16 32} {x3 : FVec Ideal Pre_offsets_of_the_grid.S2x2 .f32}
    {x4 : FVec Ideal Pre_offsets_of_the_grid.S2 .f32}
    (h : Pre_offsets_of_the_grid.fn (F := Ideal) x0 x1 x2 x3 x4 = fun _ => 1#1) : Plain.Grid x1 := fun q => by
  have e := congrFun h (ix1 q)
  have w := StableHlo.Predicate.cmpi_eq_iff.1 e
  have t := extractStridedSlice_apply ![1] x1 Pre_offsets_of_the_grid.Facts.slices_S17_S16_1 (ix1 q) (ix1 ⟨q.val + 1, by omega⟩)
    (fun a => match a with | ⟨0, _⟩ => Nat.add_comm q.val 1)
  have r : (Pre_offsets_of_the_grid.S16.rowMajor (ix1 q) : Fin 16) = q := Fin.ext (Shape.rowMajor_val_one _)
  exact t.symm.trans (w.trans ((congrArg Pre_offsets_of_the_grid.lit0 r).trans (offset_words q)))

/-- THE TWO RESULTS are one array. -/
theorem results_eq (m : (ℓ : Loc KernelIdeal.nD KernelIdeal.τ KernelIdeal.sig) → Buf (Elt Ideal) ℓ) (c : Dev KernelIdeal.nD)
    (x1 : IVec ReferenceIdeal.S17 32) (hx : Plain.Grid x1) :
    ReferenceIdeal.Read.val_main_v26 (F := Ideal) (m ((c : Thread KernelIdeal.nD KernelIdeal.τ).loc KernelIdeal.main_arg0)) x1
        (m ((c : Thread KernelIdeal.nD KernelIdeal.τ).loc KernelIdeal.main_arg3))
        (m ((c : Thread KernelIdeal.nD KernelIdeal.τ).loc KernelIdeal.main_arg4))
      = KernelIdeal.Gen.V5 m (outs m) c KernelIdeal.main_v6 := by
  funext i
  obtain ⟨n, b, d, rfl⟩ : ∃ (n : Fin 6513496) (b : Fin 4) (d : Fin 2), i = ix3 n b d := ⟨i 0, i 1, i 2, eq_ix3 i⟩
  obtain ⟨l, hl⟩ := Plain.level_exists n.val n.isLt
  exact (Plain.result_apply hx _ _ _ n b d l hl).trans
    ((result_apply m c n b d).trans (entry_eq _ _ _ b d n.val l hl)).symm

/-- From one memory of arguments both programs end with one result, their arguments kept. -/
theorem equal : Cert.algebraic_KernelIdeal_ReferenceIdeal_pre_offsets_of_the_grid := fun m g m' g' hp ha =>
  ⟨fun c => KernelIdeal.Gen.V5 m (outs m) c KernelIdeal.main_v6,
    (θ_run (KernelIdeal.defs (F := Ideal)) _ _).mono (fun _ h => h.1) (run m g),
    (θ_run (ReferenceIdeal.defs (F := Ideal)) _ _).mono (fun r h c => by
      obtain ⟨a0, a1, _, a3, a4⟩ := ha c
      refine ⟨(h c).1.trans ?_, (h c).2⟩
      rw [ReferenceIdeal.Read.val_main_v26_eq, a0, a1, a3, a4]
      exact results_eq m c _ (grid_of_pre (hp c))) (ReferenceIdeal.Value.run m' g')⟩

end Cert.GridProof
-- ==== Proof.lean ====
/-
  The claim: the frames of the kernel, of its idealization and of the plain program, and the equality of their results at
  exact numbers under the grid's offsets.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_offsets_of_the_grid
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The idealized reference's frame. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem claim : Cert.Claim := ⟨Cert.Kernel.Gen.facts, Cert.KernelIdeal.Gen.facts, Cert.ReferenceIdeal.Gen.facts,
  Cert.Pre_offsets_of_the_grid.Gen.facts, Cert.GridProof.frame_bits, Cert.GridProof.frame_ideal,
  fun m g _ => Cert.GridProof.frame (F := Ideal) m g, frame_reference, fun m g _ => frame_reference m g trivial, trivial,
  Cert.GridProof.equal⟩

end Cert.Proof

end
